-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "sim_scale" .f32 0x393B95A3#32 (((2 / 16129) * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v2_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S128x256 : Shape := ⟨2, ![128, 256]⟩
abbrev S128 : Shape := ⟨1, ![128]⟩
abbrev S1x256 : Shape := ⟨2, ![1, 256]⟩
abbrev S1x128 : Shape := ⟨2, ![1, 128]⟩
abbrev S8192x128 : Shape := ⟨2, ![8192, 128]⟩
abbrev S1024x256 : Shape := ⟨2, ![1024, 256]⟩
abbrev S1024x128 : Shape := ⟨2, ![1024, 128]⟩
abbrev S1024 : Shape := ⟨1, ![1024]⟩
abbrev S1024x1 : Shape := ⟨2, ![1024, 1]⟩
abbrev S16x1x1 : Shape := ⟨3, ![16, 1, 1]⟩
abbrev S512x128 : Shape := ⟨2, ![512, 128]⟩
abbrev S512x8192 : Shape := ⟨2, ![512, 8192]⟩
abbrev S1x1x1 : Shape := ⟨3, ![1, 1, 1]⟩
abbrev S512x1024 : Shape := ⟨2, ![512, 1024]⟩
abbrev S1x512x1024 : Shape := ⟨3, ![1, 512, 1024]⟩
abbrev S1 : Shape := ⟨1, ![1]⟩
abbrev S_ : Shape := ⟨0, ![]⟩

abbrev nBuf : Space → Nat
  | .hbm => 43
  | .vmem => 24
  | .smem => 9
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x8192, .i1⟩
  | .hbm, ⟨3, _⟩ => ⟨S256x256, .f32⟩
  | .hbm, ⟨4, _⟩ => ⟨S256, .f32⟩
  | .hbm, ⟨5, _⟩ => ⟨S128x256, .f32⟩
  | .hbm, ⟨6, _⟩ => ⟨S128, .f32⟩
  | .hbm, ⟨7, _⟩ => ⟨S1x256, .f32⟩
  | .hbm, ⟨8, _⟩ => ⟨S1x128, .f32⟩
  | .hbm, ⟨9, _⟩ => ⟨S8192x256, .f32⟩
  | .hbm, ⟨10, _⟩ => ⟨S8192x128, .i8⟩
  | .hbm, ⟨11, _⟩ => ⟨S8192x128, .i8⟩
  | .hbm, ⟨12, _⟩ => ⟨S8192x8192, .i32⟩
  | .hbm, ⟨13, _⟩ => ⟨S16x1x1, .f32⟩
  | .hbm, ⟨14, _⟩ => ⟨S16x1x1, .f32⟩
  | .hbm, ⟨15, _⟩ => ⟨S16x1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .i1⟩
  | .hbm, ⟨29, _⟩ => ⟨S_, .i32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S1, .f32⟩
  | .hbm, ⟨34, _⟩ => ⟨S8192x8192, .i32⟩
  | .hbm, ⟨35, _⟩ => ⟨S16x1x1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S256x256, .f32⟩
  | .local _ .vmem, ⟨5, _⟩ => ⟨S1x256, .f32⟩
  | .local _ .vmem, ⟨6, _⟩ => ⟨S128x256, .f32⟩
  | .local _ .vmem, ⟨7, _⟩ => ⟨S1x128, .f32⟩
  | .local _ .vmem, ⟨8, _⟩ => ⟨S1024x256, .f32⟩
  | .local _ .vmem, ⟨9, _⟩ => ⟨S1024x256, .f32⟩
  | .local _ .vmem, ⟨10, _⟩ => ⟨S1024x128, .i8⟩
  | .local _ .vmem, ⟨11, _⟩ => ⟨S1024x128, .i8⟩
  | .local _ .vmem, ⟨12, _⟩ => ⟨S1024x128, .i8⟩
  | .local _ .vmem, ⟨13, _⟩ => ⟨S1024x128, .i8⟩
  | .local _ .vmem, ⟨14, _⟩ => ⟨S512x128, .i8⟩
  | .local _ .vmem, ⟨15, _⟩ => ⟨S512x128, .i8⟩
  | .local _ .vmem, ⟨16, _⟩ => ⟨S8192x128, .i8⟩
  | .local _ .vmem, ⟨17, _⟩ => ⟨S512x8192, .i32⟩
  | .local _ .vmem, ⟨18, _⟩ => ⟨S512x8192, .i32⟩
  | .local _ .vmem, ⟨19, _⟩ => ⟨S512x128, .i8⟩
  | .local _ .vmem, ⟨20, _⟩ => ⟨S512x128, .i8⟩
  | .local _ .vmem, ⟨21, _⟩ => ⟨S8192x128, .i8⟩
  | .local _ .vmem, ⟨22, _⟩ => ⟨S512x8192, .i32⟩
  | .local _ .vmem, ⟨23, _⟩ => ⟨S512x8192, .i32⟩
  | .local _ .smem, ⟨0, _⟩ => ⟨S1x1x1, .f32⟩
  | .local _ .smem, ⟨1, _⟩ => ⟨S1x1x1, .f32⟩
  | .local _ .smem, ⟨2, _⟩ => ⟨S1x1x1, .f32⟩
  | .local _ .smem, ⟨3, _⟩ => ⟨S1x1x1, .f32⟩
  | .local _ .smem, ⟨4, _⟩ => ⟨S1x1x1, .f32⟩
  | .local _ .smem, ⟨5, _⟩ => ⟨S1x1x1, .f32⟩
  | .local _ .smem, ⟨6, _⟩ => ⟨S1, .f32⟩
  | .local _ .smem, ⟨7, _⟩ => ⟨S1x1x1, .f32⟩
  | .local _ .smem, ⟨8, _⟩ => ⟨S1x1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_cst : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_cst_1 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_cst_4 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_case0b0_cst_5 : Ref sig .tc := ⟨.hbm, 31, rfl⟩
abbrev main_case0b0_v14 : Ref sig .tc := ⟨.hbm, 32, rfl⟩
abbrev main_case0b0_v15 : Ref sig .tc := ⟨.hbm, 33, rfl⟩
abbrev main_case0b0_v16 : Ref sig .tc := ⟨.hbm, 34, rfl⟩
abbrev main_case0b0_v17 : Ref sig .tc := ⟨.hbm, 35, rfl⟩
abbrev main_case0b0_cst_6 : Ref sig .tc := ⟨.hbm, 36, rfl⟩
abbrev main_case0b0_v18 : Ref sig .tc := ⟨.hbm, 37, rfl⟩
abbrev main_case0b0_v19 : Ref sig .tc := ⟨.hbm, 38, rfl⟩
abbrev main_case0b1_v14 : Ref sig .tc := ⟨.hbm, 39, rfl⟩
abbrev main_case0b1_v15 : Ref sig .tc := ⟨.hbm, 40, rfl⟩
abbrev main_case0b1_v16 : Ref sig .tc := ⟨.hbm, 41, rfl⟩
abbrev main_case0b1_v17 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc1_stg3_0 : Ref sig .tc := ⟨.smem, 0, rfl⟩
abbrev cc1_stg3_1 : Ref sig .tc := ⟨.smem, 1, rfl⟩
abbrev cc1_stg4_0 : Ref sig .tc := ⟨.smem, 2, rfl⟩
abbrev cc1_stg4_1 : Ref sig .tc := ⟨.smem, 3, rfl⟩
abbrev cc1_stg5_0 : Ref sig .tc := ⟨.smem, 4, rfl⟩
abbrev cc1_stg5_1 : Ref sig .tc := ⟨.smem, 5, rfl⟩
abbrev cc2_stg0_0 : Ref sig .tc := ⟨.smem, 6, rfl⟩
abbrev cc2_stg4_0 : Ref sig .tc := ⟨.smem, 7, rfl⟩
abbrev cc2_stg4_1 : Ref sig .tc := ⟨.smem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc2_sem0_0 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem3_1 : DmaSem sig := 30
abbrev cc2_sem4_0 : DmaSem sig := 31
abbrev cc2_sem4_1 : DmaSem sig := 32

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x128 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x128 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

@[reducible] def k1_t1_loop : Scf.Loop 32 :=
  let c0_i32 : BitVec 32 := 0#32
  let c8_i32 : BitVec 32 := 8#32
  let v2 : BitVec 32 := Scalar.addi c0_i32 c8_i32
  let c1_i32 : BitVec 32 := 1#32
  ⟨c0_i32, v2, c1_i32⟩
def k1_off1 (k1_t1 : Fin k1_t1_loop.trips) : Fin 2 → Nat :=
  let c0_i32 : BitVec 32 := 0#32
  let c1_i32 : BitVec 32 := 1#32
  let arg7 : BitVec 32 := Scf.iv c0_i32 c1_i32 k1_t1
  let c1024_i32 : BitVec 32 := 1024#32
  let v7 : BitVec 32 := Scalar.muli arg7 c1024_i32
  let v8 : Index := Scalar.indexCast v7
  let c0_13 : Index := 0#32
  ![v8.toNat, 0]
def k1_off2 (k1_t1 : Fin k1_t1_loop.trips) : Fin 2 → Nat :=
  let c0_17 : Index := 0#32
  let c0_i32 : BitVec 32 := 0#32
  let c1_i32 : BitVec 32 := 1#32
  let arg7 : BitVec 32 := Scf.iv c0_i32 c1_i32 k1_t1
  let c1024_i32_16 : BitVec 32 := 1024#32
  let v16 : BitVec 32 := Scalar.muli arg7 c1024_i32_16
  let v17 : Index := Scalar.indexCast v16
  ![0, v17.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x128 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .i8 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x8192 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .smem S1x1x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .smem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .smem S1x1x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![16], ![false]⟩

@[reducible] def k2_t1_loop : Scf.Loop 32 :=
  let c0_i32 : BitVec 32 := 0#32
  let c8_i32 : BitVec 32 := 8#32
  let v3 : BitVec 32 := Scalar.addi c0_i32 c8_i32
  let c1_i32 : BitVec 32 := 1#32
  ⟨c0_i32, v3, c1_i32⟩
def k2_off1 (k2_t1 : Fin k2_t1_loop.trips) : Fin 2 → Nat :=
  let c0_i32 : BitVec 32 := 0#32
  let c1_i32 : BitVec 32 := 1#32
  let arg6 : BitVec 32 := Scf.iv c0_i32 c1_i32 k2_t1
  let c1024_i32 : BitVec 32 := 1024#32
  let v6 : BitVec 32 := Scalar.muli arg6 c1024_i32
  let v7 : Index := Scalar.indexCast v6
  let c0_6 : Index := 0#32
  ![v7.toNat, 0]
def k2_off2 (k2_t1 : Fin k2_t1_loop.trips) : Fin 2 → Nat :=
  let c0_11 : Index := 0#32
  let c0_i32 : BitVec 32 := 0#32
  let c1_i32 : BitVec 32 := 1#32
  let arg6 : BitVec 32 := Scf.iv c0_i32 c1_i32 k2_t1
  let c1024_i32_10 : BitVec 32 := 1024#32
  let v21 : BitVec 32 := Scalar.muli arg6 c1024_i32_10
  let v22 : Index := Scalar.indexCast v21
  ![0, v22.toNat]
def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S512x128 .i8 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S8192x128 .i8 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x8192 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .smem S1x1x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== KernelIdeal.lean ====
variable {F : FTy → Type} [FloatOps F] [Named F]
def κ : String → Option EReal := fun
  | "sim_scale" => some (((2 / 16129) * (Real.log 2)⁻¹ : ℝ) : EReal)
  | _ => none
-- ==== ReferenceIdeal.lean ====
abbrev S8192x256 : Shape := ⟨2, ![8192, 256]⟩
abbrev S8192x8192 : Shape := ⟨2, ![8192, 8192]⟩
abbrev S256x256 : Shape := ⟨2, ![256, 256]⟩
abbrev S256 : Shape := ⟨1, ![256]⟩
abbrev S128x256 : Shape := ⟨2, ![128, 256]⟩
abbrev S128 : Shape := ⟨1, ![128]⟩
abbrev S1x256 : Shape := ⟨2, ![1, 256]⟩
abbrev S_ : Shape := ⟨0, ![]⟩
abbrev S256x128 : Shape := ⟨2, ![256, 128]⟩
abbrev S8192x128 : Shape := ⟨2, ![8192, 128]⟩
abbrev S1x128 : Shape := ⟨2, ![1, 128]⟩
abbrev S8192 : Shape := ⟨1, ![8192]⟩
abbrev S8192x1 : Shape := ⟨2, ![8192, 1]⟩
abbrev S128x8192 : Shape := ⟨2, ![128, 8192]⟩

abbrev nBuf : Space → Nat
  | .hbm => 228
  | .vmem => 0
  | .smem => 0
  | _ => 0

abbrev hbmTy0_0 (i : Nat) : BufTy := match i % 128 with
  | 0 => ⟨S8192x256, .f32⟩
  | 1 => ⟨S8192x256, .f32⟩
  | 2 => ⟨S8192x8192, .i1⟩
  | 3 => ⟨S256x256, .f32⟩
  | 4 => ⟨S256, .f32⟩
  | 5 => ⟨S128x256, .f32⟩
  | 6 => ⟨S128, .f32⟩
  | 7 => ⟨S256x256, .f32⟩
  | 8 => ⟨S8192x256, .f32⟩
  | 9 => ⟨S1x256, .f32⟩
  | 10 => ⟨S8192x256, .f32⟩
  | 11 => ⟨S8192x256, .f32⟩
  | 12 => ⟨S_, .f32⟩
  | 13 => ⟨S8192x256, .f32⟩
  | 14 => ⟨S8192x256, .i1⟩
  | 15 => ⟨S_, .f32⟩
  | 16 => ⟨S8192x256, .f32⟩
  | 17 => ⟨S8192x256, .i1⟩
  | 18 => ⟨S_, .f32⟩
  | 19 => ⟨S_, .f32⟩
  | 20 => ⟨S8192x256, .f32⟩
  | 21 => ⟨S8192x256, .f32⟩
  | 22 => ⟨S8192x256, .f32⟩
  | 23 => ⟨S_, .f32⟩
  | 24 => ⟨S8192x256, .f32⟩
  | 25 => ⟨S8192x256, .f32⟩
  | 26 => ⟨S8192x256, .f32⟩
  | 27 => ⟨S256x128, .f32⟩
  | 28 => ⟨S8192x128, .f32⟩
  | 29 => ⟨S1x128, .f32⟩
  | 30 => ⟨S8192x128, .f32⟩
  | 31 => ⟨S8192x128, .f32⟩
  | 32 => ⟨S256x256, .f32⟩
  | 33 => ⟨S8192x256, .f32⟩
  | 34 => ⟨S1x256, .f32⟩
  | 35 => ⟨S8192x256, .f32⟩
  | 36 => ⟨S8192x256, .f32⟩
  | 37 => ⟨S_, .f32⟩
  | 38 => ⟨S8192x256, .f32⟩
  | 39 => ⟨S8192x256, .i1⟩
  | 40 => ⟨S_, .f32⟩
  | 41 => ⟨S8192x256, .f32⟩
  | 42 => ⟨S8192x256, .i1⟩
  | 43 => ⟨S_, .f32⟩
  | 44 => ⟨S_, .f32⟩
  | 45 => ⟨S8192x256, .f32⟩
  | 46 => ⟨S8192x256, .f32⟩
  | 47 => ⟨S8192x256, .f32⟩
  | 48 => ⟨S_, .f32⟩
  | 49 => ⟨S8192x256, .f32⟩
  | 50 => ⟨S8192x256, .f32⟩
  | 51 => ⟨S8192x256, .f32⟩
  | 52 => ⟨S256x128, .f32⟩
  | 53 => ⟨S8192x128, .f32⟩
  | 54 => ⟨S1x128, .f32⟩
  | 55 => ⟨S8192x128, .f32⟩
  | 56 => ⟨S8192x128, .f32⟩
  | 57 => ⟨S8192x128, .f32⟩
  | 58 => ⟨S_, .f32⟩
  | 59 => ⟨S8192, .f32⟩
  | 60 => ⟨S8192x1, .f32⟩
  | 61 => ⟨S8192x1, .f32⟩
  | 62 => ⟨S_, .f32⟩
  | 63 => ⟨S_, .f32⟩
  | 64 => ⟨S8192x1, .f32⟩
  | 65 => ⟨S8192x1, .f32⟩
  | 66 => ⟨S8192x128, .f32⟩
  | 67 => ⟨S8192x128, .f32⟩
  | 68 => ⟨S_, .f32⟩
  | 69 => ⟨S8192x128, .f32⟩
  | 70 => ⟨S8192x128, .f32⟩
  | 71 => ⟨S8192x128, .f32⟩
  | 72 => ⟨S_, .f32⟩
  | 73 => ⟨S_, .f32⟩
  | 74 => ⟨S_, .f32⟩
  | 75 => ⟨S8192x128, .f32⟩
  | 76 => ⟨S8192x128, .f32⟩
  | 77 => ⟨S_, .f32⟩
  | 78 => ⟨S8192x128, .f32⟩
  | 79 => ⟨S8192x128, .f32⟩
  | 80 => ⟨S8192x128, .f32⟩
  | 81 => ⟨S_, .f32⟩
  | 82 => ⟨S8192, .f32⟩
  | 83 => ⟨S8192x1, .f32⟩
  | 84 => ⟨S8192x1, .f32⟩
  | 85 => ⟨S_, .f32⟩
  | 86 => ⟨S_, .f32⟩
  | 87 => ⟨S8192x1, .f32⟩
  | 88 => ⟨S8192x1, .f32⟩
  | 89 => ⟨S8192x128, .f32⟩
  | 90 => ⟨S8192x128, .f32⟩
  | 91 => ⟨S_, .f32⟩
  | 92 => ⟨S8192x128, .f32⟩
  | 93 => ⟨S8192x128, .f32⟩
  | 94 => ⟨S8192x128, .f32⟩
  | 95 => ⟨S_, .f32⟩
  | 96 => ⟨S_, .f32⟩
  | 97 => ⟨S_, .f32⟩
  | 98 => ⟨S8192x128, .f32⟩
  | 99 => ⟨S8192x128, .f32⟩
  | 100 => ⟨S_, .f32⟩
  | 101 => ⟨S8192x128, .f32⟩
  | 102 => ⟨S8192x128, .f32⟩
  | 103 => ⟨S128x8192, .f32⟩
  | 104 => ⟨S8192x8192, .f32⟩
  | 105 => ⟨S_, .f32⟩
  | 106 => ⟨S8192x8192, .f32⟩
  | 107 => ⟨S8192x8192, .f32⟩
  | 108 => ⟨S_, .f32⟩
  | 109 => ⟨S8192x8192, .f32⟩
  | 110 => ⟨S8192x8192, .f32⟩
  | 111 => ⟨S8192x8192, .f32⟩
  | 112 => ⟨S_, .f32⟩
  | 113 => ⟨S_, .f32⟩
  | 114 => ⟨S8192x8192, .f32⟩
  | 115 => ⟨S8192x8192, .f32⟩
  | 116 => ⟨S_, .f32⟩
  | 117 => ⟨S_, .f32⟩
  | 118 => ⟨S_, .f32⟩
  | 119 => ⟨S_, .i1⟩
  | 120 => ⟨S8192x8192, .f32⟩
  | 121 => ⟨S8192x8192, .f32⟩
  | 122 => ⟨S8192x8192, .f32⟩
  | 123 => ⟨S8192x8192, .f32⟩
  | 124 => ⟨S8192x8192, .f32⟩
  | 125 => ⟨S8192x8192, .f32⟩
  | 126 => ⟨S8192x8192, .f32⟩
  | 127 => ⟨S8192x8192, .f32⟩
  | _ => ⟨S8192x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S8192x8192, .f32⟩
  | 7 => ⟨S8192x8192, .f32⟩
  | 8 => ⟨S_, .f32⟩
  | 9 => ⟨S_, .f32⟩
  | 10 => ⟨S_, .f32⟩
  | 11 => ⟨S8192x8192, .i1⟩
  | 12 => ⟨S8192x128, .f32⟩
  | 13 => ⟨S_, .f32⟩
  | 14 => ⟨S8192, .f32⟩
  | 15 => ⟨S8192x1, .f32⟩
  | 16 => ⟨S8192x1, .f32⟩
  | 17 => ⟨S_, .f32⟩
  | 18 => ⟨S_, .f32⟩
  | 19 => ⟨S8192x1, .f32⟩
  | 20 => ⟨S8192x1, .f32⟩
  | 21 => ⟨S8192x128, .f32⟩
  | 22 => ⟨S8192x128, .f32⟩
  | 23 => ⟨S_, .f32⟩
  | 24 => ⟨S8192x128, .f32⟩
  | 25 => ⟨S8192x128, .f32⟩
  | 26 => ⟨S8192x128, .f32⟩
  | 27 => ⟨S_, .f32⟩
  | 28 => ⟨S_, .f32⟩
  | 29 => ⟨S_, .f32⟩
  | 30 => ⟨S8192x128, .f32⟩
  | 31 => ⟨S8192x128, .f32⟩
  | 32 => ⟨S_, .f32⟩
  | 33 => ⟨S8192x128, .f32⟩
  | 34 => ⟨S8192x128, .f32⟩
  | 35 => ⟨S8192x128, .f32⟩
  | 36 => ⟨S_, .f32⟩
  | 37 => ⟨S8192, .f32⟩
  | 38 => ⟨S8192x1, .f32⟩
  | 39 => ⟨S8192x1, .f32⟩
  | 40 => ⟨S_, .f32⟩
  | 41 => ⟨S_, .f32⟩
  | 42 => ⟨S8192x1, .f32⟩
  | 43 => ⟨S8192x1, .f32⟩
  | 44 => ⟨S8192x128, .f32⟩
  | 45 => ⟨S8192x128, .f32⟩
  | 46 => ⟨S_, .f32⟩
  | 47 => ⟨S8192x128, .f32⟩
  | 48 => ⟨S8192x128, .f32⟩
  | 49 => ⟨S8192x128, .f32⟩
  | 50 => ⟨S_, .f32⟩
  | 51 => ⟨S_, .f32⟩
  | 52 => ⟨S_, .f32⟩
  | 53 => ⟨S8192x128, .f32⟩
  | 54 => ⟨S8192x128, .f32⟩
  | 55 => ⟨S_, .f32⟩
  | 56 => ⟨S8192x128, .f32⟩
  | 57 => ⟨S8192x128, .f32⟩
  | 58 => ⟨S128x8192, .f32⟩
  | 59 => ⟨S8192x8192, .f32⟩
  | 60 => ⟨S_, .f32⟩
  | 61 => ⟨S8192x8192, .f32⟩
  | 62 => ⟨S8192x8192, .f32⟩
  | 63 => ⟨S_, .f32⟩
  | 64 => ⟨S8192x8192, .f32⟩
  | 65 => ⟨S8192x8192, .f32⟩
  | 66 => ⟨S8192x8192, .f32⟩
  | 67 => ⟨S_, .f32⟩
  | 68 => ⟨S_, .f32⟩
  | 69 => ⟨S8192x8192, .f32⟩
  | 70 => ⟨S8192x8192, .f32⟩
  | 71 => ⟨S_, .f32⟩
  | 72 => ⟨S_, .f32⟩
  | 73 => ⟨S_, .f32⟩
  | 74 => ⟨S_, .i1⟩
  | 75 => ⟨S8192x8192, .f32⟩
  | 76 => ⟨S8192x8192, .f32⟩
  | 77 => ⟨S8192x8192, .f32⟩
  | 78 => ⟨S8192x8192, .f32⟩
  | 79 => ⟨S8192x8192, .f32⟩
  | 80 => ⟨S8192x8192, .f32⟩
  | 81 => ⟨S8192x8192, .f32⟩
  | 82 => ⟨S8192x8192, .f32⟩
  | 83 => ⟨S_, .f32⟩
  | 84 => ⟨S_, .f32⟩
  | 85 => ⟨S_, .f32⟩
  | 86 => ⟨S_, .f32⟩
  | 87 => ⟨S_, .f32⟩
  | 88 => ⟨S_, .f32⟩
  | 89 => ⟨S8192x8192, .f32⟩
  | 90 => ⟨S8192x8192, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S8192x256, .f32⟩
  | _ => ⟨S8192x256, .f32⟩

abbrev hbmTy (i : Nat) : BufTy := match i / 128 with
  | 0 => hbmTy0_0 i
  | 1 => hbmTy0_1 i
  | _ => ⟨S8192x256, .f32⟩

abbrev bufTy : (tb : Table) → Fin (tcTables nBuf tb) → BufTy
  | .hbm, ⟨i, _⟩ => hbmTy i
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_cst_0 : Ref sig .tc := ⟨.hbm, 15, rfl⟩
abbrev main_call0_v2 : Ref sig .tc := ⟨.hbm, 16, rfl⟩
abbrev main_call0_v3 : Ref sig .tc := ⟨.hbm, 17, rfl⟩
abbrev main_call0_cst_1 : Ref sig .tc := ⟨.hbm, 18, rfl⟩
abbrev main_call0_call0_v0 : Ref sig .tc := ⟨.hbm, 19, rfl⟩
abbrev main_call0_call0_v1 : Ref sig .tc := ⟨.hbm, 20, rfl⟩
abbrev main_call0_v4 : Ref sig .tc := ⟨.hbm, 21, rfl⟩
abbrev main_call0_v5 : Ref sig .tc := ⟨.hbm, 22, rfl⟩
abbrev main_call0_cst_2 : Ref sig .tc := ⟨.hbm, 23, rfl⟩
abbrev main_call0_v6 : Ref sig .tc := ⟨.hbm, 24, rfl⟩
abbrev main_call0_v7 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_call1_cst : Ref sig .tc := ⟨.hbm, 37, rfl⟩
abbrev main_call1_v0 : Ref sig .tc := ⟨.hbm, 38, rfl⟩
abbrev main_call1_v1 : Ref sig .tc := ⟨.hbm, 39, rfl⟩
abbrev main_call1_cst_0 : Ref sig .tc := ⟨.hbm, 40, rfl⟩
abbrev main_call1_v2 : Ref sig .tc := ⟨.hbm, 41, rfl⟩
abbrev main_call1_v3 : Ref sig .tc := ⟨.hbm, 42, rfl⟩
abbrev main_call1_cst_1 : Ref sig .tc := ⟨.hbm, 43, rfl⟩
abbrev main_call1_call0_v0 : Ref sig .tc := ⟨.hbm, 44, rfl⟩
abbrev main_call1_call0_v1 : Ref sig .tc := ⟨.hbm, 45, rfl⟩
abbrev main_call1_v4 : Ref sig .tc := ⟨.hbm, 46, rfl⟩
abbrev main_call1_v5 : Ref sig .tc := ⟨.hbm, 47, rfl⟩
abbrev main_call1_cst_2 : Ref sig .tc := ⟨.hbm, 48, rfl⟩
abbrev main_call1_v6 : Ref sig .tc := ⟨.hbm, 49, rfl⟩
abbrev main_call1_v7 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_call2_v0 : Ref sig .tc := ⟨.hbm, 57, rfl⟩
abbrev main_call2_cst : Ref sig .tc := ⟨.hbm, 58, rfl⟩
abbrev main_call2_v1 : Ref sig .tc := ⟨.hbm, 59, rfl⟩
abbrev main_call2_v2 : Ref sig .tc := ⟨.hbm, 60, rfl⟩
abbrev main_v22 : Ref sig .tc := ⟨.hbm, 61, rfl⟩
abbrev main_cst : Ref sig .tc := ⟨.hbm, 62, rfl⟩
abbrev main_call3_v0 : Ref sig .tc := ⟨.hbm, 63, rfl⟩
abbrev main_call3_v1 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_cst_0 : Ref sig .tc := ⟨.hbm, 68, rfl⟩
abbrev main_v26 : Ref sig .tc := ⟨.hbm, 69, rfl⟩
abbrev main_v27 : Ref sig .tc := ⟨.hbm, 70, rfl⟩
abbrev main_v28 : Ref sig .tc := ⟨.hbm, 71, rfl⟩
abbrev main_cst_1 : Ref sig .tc := ⟨.hbm, 72, rfl⟩
abbrev main_cst_2 : Ref sig .tc := ⟨.hbm, 73, rfl⟩
abbrev main_call5_v0 : Ref sig .tc := ⟨.hbm, 74, rfl⟩
abbrev main_call5_v1 : Ref sig .tc := ⟨.hbm, 75, rfl⟩
abbrev main_call5_v2 : Ref sig .tc := ⟨.hbm, 76, rfl⟩
abbrev main_call5_v3 : Ref sig .tc := ⟨.hbm, 77, rfl⟩
abbrev main_call5_v4 : Ref sig .tc := ⟨.hbm, 78, rfl⟩
abbrev main_v29 : Ref sig .tc := ⟨.hbm, 79, rfl⟩
abbrev main_call6_v0 : Ref sig .tc := ⟨.hbm, 80, rfl⟩
abbrev main_call6_cst : Ref sig .tc := ⟨.hbm, 81, rfl⟩
abbrev main_call6_v1 : Ref sig .tc := ⟨.hbm, 82, rfl⟩
abbrev main_call6_v2 : Ref sig .tc := ⟨.hbm, 83, rfl⟩
abbrev main_v30 : Ref sig .tc := ⟨.hbm, 84, rfl⟩
abbrev main_cst_3 : Ref sig .tc := ⟨.hbm, 85, rfl⟩
abbrev main_call7_v0 : Ref sig .tc := ⟨.hbm, 86, rfl⟩
abbrev main_call7_v1 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_cst_4 : Ref sig .tc := ⟨.hbm, 91, rfl⟩
abbrev main_v34 : Ref sig .tc := ⟨.hbm, 92, rfl⟩
abbrev main_v35 : Ref sig .tc := ⟨.hbm, 93, rfl⟩
abbrev main_v36 : Ref sig .tc := ⟨.hbm, 94, rfl⟩
abbrev main_cst_5 : Ref sig .tc := ⟨.hbm, 95, rfl⟩
abbrev main_cst_6 : Ref sig .tc := ⟨.hbm, 96, rfl⟩
abbrev main_call9_v0 : Ref sig .tc := ⟨.hbm, 97, rfl⟩
abbrev main_call9_v1 : Ref sig .tc := ⟨.hbm, 98, rfl⟩
abbrev main_call9_v2 : Ref sig .tc := ⟨.hbm, 99, rfl⟩
abbrev main_call9_v3 : Ref sig .tc := ⟨.hbm, 100, rfl⟩
abbrev main_call9_v4 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_cst_7 : Ref sig .tc := ⟨.hbm, 105, rfl⟩
abbrev main_v40 : Ref sig .tc := ⟨.hbm, 106, rfl⟩
abbrev main_v41 : Ref sig .tc := ⟨.hbm, 107, rfl⟩
abbrev main_cst_8 : Ref sig .tc := ⟨.hbm, 108, rfl⟩
abbrev main_v42 : Ref sig .tc := ⟨.hbm, 109, rfl⟩
abbrev main_v43 : Ref sig .tc := ⟨.hbm, 110, rfl⟩
abbrev main_v44 : Ref sig .tc := ⟨.hbm, 111, rfl⟩
abbrev main_cst_9 : Ref sig .tc := ⟨.hbm, 112, rfl⟩
abbrev main_call10_v0 : Ref sig .tc := ⟨.hbm, 113, rfl⟩
abbrev main_call10_v1 : Ref sig .tc := ⟨.hbm, 114, rfl⟩
abbrev main_v45 : Ref sig .tc := ⟨.hbm, 115, rfl⟩
abbrev main_cst_10 : Ref sig .tc := ⟨.hbm, 116, rfl⟩
abbrev main_v46 : Ref sig .tc := ⟨.hbm, 117, rfl⟩
abbrev main_cst_11 : Ref sig .tc := ⟨.hbm, 118, rfl⟩
abbrev main_v47 : Ref sig .tc := ⟨.hbm, 119, rfl⟩
abbrev main_v48 : Ref sig .tc := ⟨.hbm, 120, rfl⟩
abbrev main_v49 : Ref sig .tc := ⟨.hbm, 121, rfl⟩
abbrev main_call11_v0 : Ref sig .tc := ⟨.hbm, 122, rfl⟩
abbrev main_v50 : Ref sig .tc := ⟨.hbm, 123, rfl⟩
abbrev main_v51 : Ref sig .tc := ⟨.hbm, 124, rfl⟩
abbrev main_v52 : Ref sig .tc := ⟨.hbm, 125, rfl⟩
abbrev main_v53 : Ref sig .tc := ⟨.hbm, 126, rfl⟩
abbrev main_v54 : Ref sig .tc := ⟨.hbm, 127, rfl⟩
abbrev main_cst_12 : Ref sig .tc := ⟨.hbm, 128, rfl⟩
abbrev main_v55 : Ref sig .tc := ⟨.hbm, 129, rfl⟩
abbrev main_cst_13 : Ref sig .tc := ⟨.hbm, 130, rfl⟩
abbrev main_v56 : Ref sig .tc := ⟨.hbm, 131, rfl⟩
abbrev main_cst_14 : Ref sig .tc := ⟨.hbm, 132, rfl⟩
abbrev main_call12_v0 : Ref sig .tc := ⟨.hbm, 133, rfl⟩
abbrev main_call12_v1 : Ref sig .tc := ⟨.hbm, 134, rfl⟩
abbrev main_v57 : Ref sig .tc := ⟨.hbm, 135, rfl⟩
abbrev main_cst_15 : Ref sig .tc := ⟨.hbm, 136, rfl⟩
abbrev main_v58 : Ref sig .tc := ⟨.hbm, 137, rfl⟩
abbrev main_v59 : Ref sig .tc := ⟨.hbm, 138, rfl⟩
abbrev main_v60 : Ref sig .tc := ⟨.hbm, 139, rfl⟩
abbrev main_call13_v0 : Ref sig .tc := ⟨.hbm, 140, rfl⟩
abbrev main_call13_cst : Ref sig .tc := ⟨.hbm, 141, rfl⟩
abbrev main_call13_v1 : Ref sig .tc := ⟨.hbm, 142, rfl⟩
abbrev main_call13_v2 : Ref sig .tc := ⟨.hbm, 143, rfl⟩
abbrev main_v61 : Ref sig .tc := ⟨.hbm, 144, rfl⟩
abbrev main_cst_16 : Ref sig .tc := ⟨.hbm, 145, rfl⟩
abbrev main_call14_v0 : Ref sig .tc := ⟨.hbm, 146, rfl⟩
abbrev main_call14_v1 : Ref sig .tc := ⟨.hbm, 147, rfl⟩
abbrev main_v62 : Ref sig .tc := ⟨.hbm, 148, rfl⟩
abbrev main_v63 : Ref sig .tc := ⟨.hbm, 149, rfl⟩
abbrev main_v64 : Ref sig .tc := ⟨.hbm, 150, rfl⟩
abbrev main_cst_17 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_cst_18 : Ref sig .tc := ⟨.hbm, 155, rfl⟩
abbrev main_cst_19 : Ref sig .tc := ⟨.hbm, 156, rfl⟩
abbrev main_call16_v0 : Ref sig .tc := ⟨.hbm, 157, rfl⟩
abbrev main_call16_v1 : Ref sig .tc := ⟨.hbm, 158, rfl⟩
abbrev main_call16_v2 : Ref sig .tc := ⟨.hbm, 159, rfl⟩
abbrev main_call16_v3 : Ref sig .tc := ⟨.hbm, 160, rfl⟩
abbrev main_call16_v4 : Ref sig .tc := ⟨.hbm, 161, rfl⟩
abbrev main_v68 : Ref sig .tc := ⟨.hbm, 162, rfl⟩
abbrev main_call17_v0 : Ref sig .tc := ⟨.hbm, 163, rfl⟩
abbrev main_call17_cst : Ref sig .tc := ⟨.hbm, 164, rfl⟩
abbrev main_call17_v1 : Ref sig .tc := ⟨.hbm, 165, rfl⟩
abbrev main_call17_v2 : Ref sig .tc := ⟨.hbm, 166, rfl⟩
abbrev main_v69 : Ref sig .tc := ⟨.hbm, 167, rfl⟩
abbrev main_cst_20 : Ref sig .tc := ⟨.hbm, 168, rfl⟩
abbrev main_call18_v0 : Ref sig .tc := ⟨.hbm, 169, rfl⟩
abbrev main_call18_v1 : Ref sig .tc := ⟨.hbm, 170, rfl⟩
abbrev main_v70 : Ref sig .tc := ⟨.hbm, 171, rfl⟩
abbrev main_v71 : Ref sig .tc := ⟨.hbm, 172, rfl⟩
abbrev main_v72 : Ref sig .tc := ⟨.hbm, 173, rfl⟩
abbrev main_cst_21 : Ref sig .tc := ⟨.hbm, 174, rfl⟩
abbrev main_v73 : Ref sig .tc := ⟨.hbm, 175, rfl⟩
abbrev main_v74 : Ref sig .tc := ⟨.hbm, 176, rfl⟩
abbrev main_v75 : Ref sig .tc := ⟨.hbm, 177, rfl⟩
abbrev main_cst_22 : Ref sig .tc := ⟨.hbm, 178, rfl⟩
abbrev main_cst_23 : Ref sig .tc := ⟨.hbm, 179, rfl⟩
abbrev main_call20_v0 : Ref sig .tc := ⟨.hbm, 180, rfl⟩
abbrev main_call20_v1 : Ref sig .tc := ⟨.hbm, 181, rfl⟩
abbrev main_call20_v2 : Ref sig .tc := ⟨.hbm, 182, rfl⟩
abbrev main_call20_v3 : Ref sig .tc := ⟨.hbm, 183, rfl⟩
abbrev main_call20_v4 : Ref sig .tc := ⟨.hbm, 184, rfl⟩
abbrev main_v76 : Ref sig .tc := ⟨.hbm, 185, rfl⟩
abbrev main_v77 : Ref sig .tc := ⟨.hbm, 186, rfl⟩
abbrev main_v78 : Ref sig .tc := ⟨.hbm, 187, rfl⟩
abbrev main_cst_24 : Ref sig .tc := ⟨.hbm, 188, rfl⟩
abbrev main_v79 : Ref sig .tc := ⟨.hbm, 189, rfl⟩
abbrev main_v80 : Ref sig .tc := ⟨.hbm, 190, rfl⟩
abbrev main_cst_25 : Ref sig .tc := ⟨.hbm, 191, rfl⟩
abbrev main_v81 : Ref sig .tc := ⟨.hbm, 192, rfl⟩
abbrev main_v82 : Ref sig .tc := ⟨.hbm, 193, rfl⟩
abbrev main_v83 : Ref sig .tc := ⟨.hbm, 194, rfl⟩
abbrev main_cst_26 : Ref sig .tc := ⟨.hbm, 195, rfl⟩
abbrev main_call21_v0 : Ref sig .tc := ⟨.hbm, 196, rfl⟩
abbrev main_call21_v1 : Ref sig .tc := ⟨.hbm, 197, rfl⟩
abbrev main_v84 : Ref sig .tc := ⟨.hbm, 198, rfl⟩
abbrev main_cst_27 : Ref sig .tc := ⟨.hbm, 199, rfl⟩
abbrev main_v85 : Ref sig .tc := ⟨.hbm, 200, rfl⟩
abbrev main_cst_28 : Ref sig .tc := ⟨.hbm, 201, rfl⟩
abbrev main_v86 : Ref sig .tc := ⟨.hbm, 202, rfl⟩
abbrev main_v87 : Ref sig .tc := ⟨.hbm, 203, rfl⟩
abbrev main_v88 : Ref sig .tc := ⟨.hbm, 204, rfl⟩
abbrev main_call22_v0 : Ref sig .tc := ⟨.hbm, 205, rfl⟩
abbrev main_v89 : Ref sig .tc := ⟨.hbm, 206, rfl⟩
abbrev main_v90 : Ref sig .tc := ⟨.hbm, 207, rfl⟩
abbrev main_v91 : Ref sig .tc := ⟨.hbm, 208, rfl⟩
abbrev main_v92 : Ref sig .tc := ⟨.hbm, 209, rfl⟩
abbrev main_v93 : Ref sig .tc := ⟨.hbm, 210, rfl⟩
abbrev main_cst_29 : Ref sig .tc := ⟨.hbm, 211, rfl⟩
abbrev main_v94 : Ref sig .tc := ⟨.hbm, 212, rfl⟩
abbrev main_cst_30 : Ref sig .tc := ⟨.hbm, 213, rfl⟩
abbrev main_v95 : Ref sig .tc := ⟨.hbm, 214, rfl⟩
abbrev main_cst_31 : Ref sig .tc := ⟨.hbm, 215, rfl⟩
abbrev main_call23_v0 : Ref sig .tc := ⟨.hbm, 216, rfl⟩
abbrev main_call23_v1 : Ref sig .tc := ⟨.hbm, 217, rfl⟩
abbrev main_v96 : Ref sig .tc := ⟨.hbm, 218, rfl⟩
abbrev main_cst_32 : Ref sig .tc := ⟨.hbm, 219, rfl⟩
abbrev main_v97 : Ref sig .tc := ⟨.hbm, 220, rfl⟩
abbrev main_v98 : Ref sig .tc := ⟨.hbm, 221, rfl⟩
abbrev main_cst_33 : Ref sig .tc := ⟨.hbm, 222, rfl⟩
abbrev main_v99 : Ref sig .tc := ⟨.hbm, 223, rfl⟩
abbrev main_cst_34 : Ref sig .tc := ⟨.hbm, 224, rfl⟩
abbrev main_v100 : Ref sig .tc := ⟨.hbm, 225, rfl⟩
abbrev main_v101 : Ref sig .tc := ⟨.hbm, 226, rfl⟩
abbrev main_v102 : Ref sig .tc := ⟨.hbm, 227, rfl⟩

abbrev nD : Nat := 1
abbrev τ : Topo := Topo.v7x

variable {F : FTy → Type} [FloatOps F]
-- ==== Proof.KernelIdeal.Common.lean ====
/-
  What the three regions and the host operations around them share: the resource algebra (one copy of the pipeline
  library's per region, beside the counters), the set of buffers that the thread state between two segments holds, and
  the proof data of a pipeline that a ticket does not run.
-/
module

public import proofs.«01_k».proof.Proof.Gen.KernelIdeal.Launch
public import proofs.«01_k».proof.Proof.Gen.KernelIdeal.Points
public import proofs.«01_k».proof.Proof.Gen.KernelIdeal.Loops
public import Idealize.ShloMosaic.Lib.Pipeline.RegionsLoop
public import Idealize.ShloMosaic.Lib.Pipeline.RegionsCase
public import Idealize.ShloMosaic.Lib.Pipeline.FrameBody
public import Idealize.ShloMosaic.Lib.Pipeline.Frame
public import Idealize.ShloMosaic.Lib.Tactic

@[expose] public section

set_option maxRecDepth 16384

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The resource algebra: the pipeline library's once per ticket (each of the three regions runs at most once), beside
    the counters. -/
abbrev UU : Type := IProdConst (Fin 3) (UR sig nD τ) × Counters

local notation "𝕄" => MT nD τ sig Unit (Elt F) ℕ UU ℕ

abbrev 𝒱₀ : Variants := Variants.none

/-- No core owes another anything: no level is assigned. -/
abbrev L : GSem nD τ sig → Finset Unit := fun _ => ∅
abbrev lv : GSem nD τ sig → Unit → ℕ := fun _ _ => 0

/-- The proof data of a pipeline that a ticket does not run: anything. -/
def junkDat {cfg : Cfg sig Λ₀} (c : Dev nD) : Dat τ (Elt F) Unit ℕ UU ℕ cfg c where
  A _ := fun _ => Classical.arbitrary _
  after _ _ := fun _ => Classical.arbitrary _
  Φ _ := BI.emp
  q _ := fullShare
  owed _ := 0

/-- The unscoped buffers of the TensorCore: what the thread state holds at a valuation. -/
def ucRefs : Finset (DevRef τ sig) := (StableHlo.tcRefs τ sig).filter fun b => ¬ b.isScoped

/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- An operation on TensorCore buffers touches unscoped ones only. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- What rides beside the buffers: the core's `owes`. -/
abbrev Ow (c : Dev nD) : sProp 𝕄 := iprop(∃ W, owes (c : Thread nD τ) (0 : CellTallies nD τ sig Unit) W)

end Cert.KernelIdeal.Run

end
-- ==== Proof.KernelIdeal.ProjRegion.lean ====
/-
  The region of `_proj_kernel`: the two-layer projection of one row block of both inputs, and the rows' int8 codes.
-/
module

public import proofs.«01_k».proof.Proof.KernelIdeal.Common

@[expose] public section

set_option maxRecDepth 16384

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## What one grid point computes -/

/-- The blocks as the body loads them: whole. -/
abbrev rIn : Rect S1024x256 := Rect.unit (s := S1024x256) ![0, 0] S1024x256.size inb_S1024x256_S1024x256_0_0
abbrev rW1 : Rect S256x256 := Rect.unit (s := S256x256) ![0, 0] S256x256.size inb_S256x256_S256x256_0_0
abbrev rb1 : Rect S1x256 := Rect.unit (s := S1x256) ![0, 0] S1x256.size inb_S1x256_S1x256_0_0
abbrev rW2 : Rect S128x256 := Rect.unit (s := S128x256) ![0, 0] S128x256.size inb_S128x256_S128x256_0_0
abbrev rb2 : Rect S1x128 := Rect.unit (s := S1x128) ![0, 0] S1x128.size inb_S1x128_S1x128_0_0
/-- The two halves of the projections' block, and a block of codes. -/
abbrev rLeft : Rect S1024x256 := Rect.unit (s := S1024x256) ![0, 0] S1024x128.size inb_S1024x256_S1024x128_0_0
abbrev rRight : Rect S1024x256 := Rect.unit (s := S1024x256) ![0, 128] S1024x128.size inb_S1024x256_S1024x128_0_128
abbrev rCode : Rect S1024x128 := Rect.unit (s := S1024x128) ![0, 0] S1024x128.size inb_S1024x128_S1024x128_0_0

/-- The projections of the two row blocks. -/
def projA (x0 : Vec F S1024x256 .f32) (x2 : Vec F S256x256 .f32) (x3 : Vec F S1x256 .f32) (x4 : Vec F S128x256 .f32) (x5 : Vec F S1x128 .f32) : Vec F S1024x128 .f32 :=
  k0_pay5 (View.ld x2 rW1) (View.ld x3 rb1) (View.ld x4 rW2) (View.ld x5 rb2) (View.ld x0 rIn)
def projB (x1 : Vec F S1024x256 .f32) (x2 : Vec F S256x256 .f32) (x3 : Vec F S1x256 .f32) (x4 : Vec F S128x256 .f32) (x5 : Vec F S1x128 .f32) : Vec F S1024x128 .f32 :=
  k0_pay6 (View.ld x2 rW1) (View.ld x3 rb1) (View.ld x4 rW2) (View.ld x5 rb2) (View.ld x1 rIn)

/-- The three output blocks. -/
def out0_6 (x0 x1 : Vec F S1024x256 .f32) (x2 : Vec F S256x256 .f32) (x3 : Vec F S1x256 .f32) (x4 : Vec F S128x256 .f32) (x5 : Vec F S1x128 .f32) : Vec F S1024x256 .f32 :=
  View.canon [⟨rRight, projB x1 x2 x3 x4 x5⟩, ⟨rLeft, projA x0 x2 x3 x4 x5⟩]
def out0_7 (x0 : Vec F S1024x256 .f32) (x2 : Vec F S256x256 .f32) (x3 : Vec F S1x256 .f32) (x4 : Vec F S128x256 .f32) (x5 : Vec F S1x128 .f32) : Vec F S1024x128 .i8 := View.canon [⟨rCode, k0_pay1 (projA x0 x2 x3 x4 x5)⟩]
def out0_8 (x1 : Vec F S1024x256 .f32) (x2 : Vec F S256x256 .f32) (x3 : Vec F S1x256 .f32) (x4 : Vec F S128x256 .f32) (x5 : Vec F S1x128 .f32) : Vec F S1024x128 .i8 := View.canon [⟨rCode, k0_pay2 (projB x1 x2 x3 x4 x5)⟩]

theorem cover0_6 (p0 p1 : Vec F S1024x128 .f32) (y : S1024x256.Idx) :
    ∃ pc ∈ ([⟨rRight, p0⟩, ⟨rLeft, p1⟩] : List (View.Piece (Elt F) S1024x256 .f32)), y ∈ pc.1.set :=
  View.cover_of_tiled [⟨rRight, p0⟩, ⟨rLeft, p1⟩] S1024x128.size (by rfl) y
theorem cover0_7 (p0 : Vec F S1024x128 .i8) (y : S1024x128.Idx) :
    ∃ pc ∈ ([⟨rCode, p0⟩] : List (View.Piece (Elt F) S1024x128 .i8)), y ∈ pc.1.set :=
  View.cover_of_tiled [⟨rCode, p0⟩] S1024x128.size (by rfl) y

/-! ## The body's triple -/

set_option maxHeartbeats 2000000 in
/-- The body on whole staging buffers: the six inputs are left as they were, each output at its block. -/
theorem sound0 (c : Dev nD) (E : Set ℕ) (i : grid0.Coords) (arg1 : Memref sig .tc .vmem S1024x256 .f32) (harg1 : arg1.IsWhole) (arg2 : Memref sig .tc .vmem S1024x256 .f32) (harg2 : arg2.IsWhole) (arg3 : Memref sig .tc .vmem S256x256 .f32) (harg3 : arg3.IsWhole) (arg4 : Memref sig .tc .vmem S1x256 .f32) (harg4 : arg4.IsWhole) (arg5 : Memref sig .tc .vmem S128x256 .f32) (harg5 : arg5.IsWhole) (arg6 : Memref sig .tc .vmem S1x128 .f32) (harg6 : arg6.IsWhole) (arg7 : Memref sig .tc .vmem S1024x256 .f32) (harg7 : arg7.IsWhole) (arg8 : Memref sig .tc .vmem S1024x128 .i8) (harg8 : arg8.IsWhole) (arg9 : Memref sig .tc .vmem S1024x128 .i8) (harg9 : arg9.IsWhole)
    (x0 x1 : Vec F S1024x256 .f32) (x2 : Vec F S256x256 .f32) (x3 : Vec F S1x256 .f32) (x4 : Vec F S128x256 .f32) (x5 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
        ∗ (∃ d, owns (c : Thread nD τ) arg7 fullShare d) ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ owns (c : Thread nD τ) arg7 fullShare (out0_6 x0 x1 x2 x3 x4 x5) ∗ owns (c : Thread nD τ) arg8 fullShare (out0_7 x0 x2 x3 x4 x5)
            ∗ owns (c : Thread nD τ) arg9 fullShare (out0_8 x1 x2 x3 x4 x5)) -∗ K ⟨⟩))
      ⊢ wp frame (wpE (defs₀ (F := F)) 𝒱₀ c none) E (cc0__proj_kernel i arg1 harg1 arg2 harg2 arg3 harg3 arg4 harg4 arg5 harg5 arg6 harg6 arg7 harg7 arg8 harg8 arg9 harg9) K := by
  simp only [cc0__proj_kernel_eq_skeleton]; unfold cc0__proj_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover0_6 _ _)
  isplitl [H7]
  · iexists _; isplitr
    swap; · iexact H7
    ipureintro
    exact View.read_writes_eq_canon _ _ _ (cover0_7 _)
  iexists _; isplitr
  swap; · iexact H8
  ipureintro
  exact View.read_writes_eq_canon _ _ _ (cover0_7 _)

/-! ## The proof data, at an entry valuation -/

variable (V : (c : Dev nD) → (b : Ref sig .tc) → Buf (Elt F) ((c : Thread nD τ).loc b))

/-- Window `w`'s block at point `t`, read off the array at the entry valuation. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The proof data of one entry of the region: the arrays at `V`; after a point each input at its block and each output at
    what the body stores; the scoped rest untouched; nothing owed. -/
def dat0 (c : Dev nD) : Dat τ (Elt F) Unit ℕ UU ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => out0_6 (iblk0 V c 0 t) (iblk0 V c 1 t) (iblk0 V c 2 t) (iblk0 V c 3 t) (iblk0 V c 4 t) (iblk0 V c 5 t)
    | ⟨7, _⟩ => out0_7 (iblk0 V c 0 t) (iblk0 V c 2 t) (iblk0 V c 3 t) (iblk0 V c 4 t) (iblk0 V c 5 t)
    | ⟨8, _⟩ => out0_8 (iblk0 V c 1 t) (iblk0 V c 2 t) (iblk0 V c 3 t) (iblk0 V c 4 t) (iblk0 V c 5 t)
  Φ _ := Pipeline.scopedRest (Ix := Unit) (Name := ℕ) (U := UU) (Lvl := ℕ) (Val := Elt F) spec0 c
  q _ := fullShare
  owed _ := 0

theorem A_eq0 (c : Dev nD) (w : Fin cfg0.W) : (dat0 V c).A w = V c (Pipeline.arrRef spec0 w) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = out0_6 (iblk0 V c 0 t) (iblk0 V c 1 t) (iblk0 V c 2 t) (iblk0 V c 3 t) (iblk0 V c 4 t) (iblk0 V c 5 t) := by dsimp only [dat0]
theorem after0_7 (c : Dev nD) (t : Fin cfg0.N) : (dat0 V c).after 7 t = out0_7 (iblk0 V c 0 t) (iblk0 V c 2 t) (iblk0 V c 3 t) (iblk0 V c 4 t) (iblk0 V c 5 t) := by dsimp only [dat0]
theorem after0_8 (c : Dev nD) (t : Fin cfg0.N) : (dat0 V c).after 8 t = out0_8 (iblk0 V c 1 t) (iblk0 V c 2 t) (iblk0 V c 3 t) (iblk0 V c 4 t) (iblk0 V c 5 t) := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]) t d).trans
    (by unfold Dat.fetched Dat.blockOf iblk0; rw [A_eq0]; rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]) t d).trans
    (by unfold Dat.fetched Dat.blockOf iblk0; rw [A_eq0]; rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]) t d).trans
    (by unfold Dat.fetched Dat.blockOf iblk0; rw [A_eq0]; rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]) t d).trans
    (by unfold Dat.fetched Dat.blockOf iblk0; rw [A_eq0]; rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]) t d).trans
    (by unfold Dat.fetched Dat.blockOf iblk0; rw [A_eq0]; rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]) t d).trans
    (by unfold Dat.fetched Dat.blockOf iblk0; rw [A_eq0]; rfl)

/-! ## The body obligation -/

/-- What the body is called with at point `t`, and what it returns. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t))

theorem sound_body0 (c : Dev nD) (t : Fin cfg0.N) :
    bodyPre0 V c t ⊢ wp frame (wpE (defs₀ (F := F)) 𝒱₀ c none) Set.univ (bodyAt0 t) (fun _ => bodyPost0 V c t) := by
  unfold bodyPre0 bodyPost0 bodyAt0
  simp only [before0_0, before0_1, before0_2, before0_3, before0_4, before0_5]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply (sound0 c Set.univ (grid0.coords t) _ _ _ _ _ _ _ _ _ _ _ _ _ _ _ _ _ _ (iblk0 V c 0 t) (iblk0 V c 1 t) (iblk0 V c 2 t) (iblk0 V c 3 t) (iblk0 V c 4 t) (iblk0 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem row0 (t : Fin cfg0.N) : defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) 𝒱₀ () Set.univ := fun t => by
  rw [bigSep_W0, bigSep_W0, row0]
  exact triple_restated (sound_body0 V c t) rfl .rfl fun _ => .rfl

/-! ## The region over the thread state -/

variable (adm : (p : Fin 3) → (pcfgs (F := F) p).Adm)

/-- This entry's proof data at its own pipeline, anything at the others. -/
def pdats0 : (p : Fin 3) → (c : Dev nD) → Dat τ (Elt F) Unit ℕ UU ℕ (Pipeline.pin (pcfgs (F := F)) adm p) c
  | ⟨0, _⟩ => fun c => dat0 V c
  | ⟨1, _⟩ => fun c => junkDat c
  | ⟨2, _⟩ => fun c => junkDat c

variable (Vp : (c : Dev nD) → (b : Ref sig .tc) → Buf (Elt F) ((c : Thread nD τ).loc b))

set_option backward.isDefEq.respectTransparency.types false in
/-- The region as a segment: entered with every unscoped buffer at `V`, left with them at any `Vp` that holds the three
    results' arrays as the pipeline leaves them and agrees with `V` elsewhere. -/
def reg0 (R : Dev nD → sProp 𝕄) (h6 : ∀ c, Vp c main_v2_0 = (dat0 V c).arrAt 6 cfg0.N) (h7 : ∀ c, Vp c main_v2_1 = (dat0 V c).arrAt 7 cfg0.N) (h8 : ∀ c, Vp c main_v2_2 = (dat0 V c).arrAt 8 cfg0.N)
    (hne : ∀ c (b : Ref sig .tc), b ≠ main_v2_0 → b ≠ main_v2_1 → b ≠ main_v2_2 → Vp c b = V c b) :
    Pipeline.RegionSeg (pcfgs (F := F)) adm (pdats0 V adm) () defs₀ 𝒱₀ L lv 0 where
  win := launch0.win.to₀
  block_pos := launch0.block_pos
  stage_whole := launch0.stage_whole
  K := PEmpty
  osem k := k.elim
  ho := Pipeline.OwnSemFacts.none _
  hbody c := (body_obligation0 V c).loose
  hwaits := Pipeline.hwaits_of_owed_zero _ _ _ _ L lv 0 fun _ _ => rfl
  pre c := iprop(unscopedBufs c (V c) ∗ R c ∗ Ow c)
  post c := iprop(unscopedBufs c (Vp c) ∗ R c ∗ Ow c)
  X _ := BI.emp
  Y _ := BI.emp
  Z c := iprop(Pipeline.unscopedRest (Ix := Unit) (Name := ℕ) (U := UU) (Lvl := ℕ) spec0 c (V c) ∗ R c)
  hentry c := by
    rw [Pipeline.ownSems0_none]
    have hsplit := Pipeline.arrays_of_unscopedBufs (p := 0) (pcfgs (F := F)) adm (pdats0 V adm) launch0.win launch0.arr_whole c
      ((pdats0 V adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats0 V adm 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (pdats0 V adm 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats0 V adm) ((pdats0 V adm 0 c).share_full fun _ => rfl) (V c) (Vp c) ((pdats0 V adm 0 c).arrAt · cfg0.N)
      (fun w => by
        fin_cases w
        · exact ((pdats0 V adm 0 c).arrAt_in 0 rfl _).trans (hne c main_arg0 (by decide) (by decide) (by decide)).symm
        · exact ((pdats0 V adm 0 c).arrAt_in 1 rfl _).trans (hne c main_arg1 (by decide) (by decide) (by decide)).symm
        · exact ((pdats0 V adm 0 c).arrAt_in 2 rfl _).trans (hne c main_arg3 (by decide) (by decide) (by decide)).symm
        · exact ((pdats0 V adm 0 c).arrAt_in 3 rfl _).trans (hne c main_v0 (by decide) (by decide) (by decide)).symm
        · exact ((pdats0 V adm 0 c).arrAt_in 4 rfl _).trans (hne c main_arg5 (by decide) (by decide) (by decide)).symm
        · exact ((pdats0 V adm 0 c).arrAt_in 5 rfl _).trans (hne c main_v1 (by decide) (by decide) (by decide)).symm
        · exact (h6 c).symm
        · exact (h7 c).symm
        · exact (h8 c).symm)
      (fun b hb => hne c b (fun h => hb (h ▸ Finset.mem_image.mpr ⟨6, Finset.mem_univ _, rfl⟩)) (fun h => hb (h ▸ Finset.mem_image.mpr ⟨7, Finset.mem_univ _, rfl⟩)) (fun h => hb (h ▸ Finset.mem_image.mpr ⟨8, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Cert.KernelIdeal.Run

end
-- ==== Proof.KernelIdeal.MainRegion.lean ====
/-
  The region of `_main_kernel`: one row block of the similarity matrix per grid point, a counted loop over eight
  column blocks. What the body stores, the loop's invariant, the body's triple, the proof data and the region as a
  segment entered from any contents of the buffers.
-/
module

public import proofs.«01_k».proof.Proof.KernelIdeal.Common

@[expose] public section

set_option maxRecDepth 16384

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## What one grid point computes -/

/-- The row block of codes as the body loads it. -/
def rows1 (x0 : Vec F S512x128 .i8) : Vec F S512x128 .i8 :=
  View.ld x0 (Rect.unit (s := S512x128) ![0, 0] S512x128.size inb_S512x128_S512x128_0_0)

/-- The block of codes and the block of the mask that trip `k` loads. -/
def cols1 (x1 : Vec F S8192x128 .i8) (k : Fin k1_t1_loop.trips) : Vec F S1024x128 .i8 :=
  View.ld x1 (Rect.unit (s := S8192x128) (k1_off1 k) S1024x128.size (k1_off1_inb k))
def mask1 (x2 : Vec F S512x8192 .i32) (k : Fin k1_t1_loop.trips) : Vec F S512x1024 .i32 :=
  View.ld x2 (Rect.unit (s := S512x8192) (k1_off2 k) S512x1024.size (k1_off2_inb k))

/-- One trip: the three partial sums after it. -/
def step1 (v0 : Vec F S512x128 .i8) (x1 : Vec F S8192x128 .i8) (x2 : Vec F S512x8192 .i32) (k : Fin k1_t1_loop.trips)
    (acc : F .f32 × F .f32 × F .f32) : F .f32 × F .f32 × F .f32 :=
  (k1_pay4 v0 acc.1 (cols1 x1 k) (mask1 x2 k), k1_pay5 v0 acc.2.1 (cols1 x1 k) (mask1 x2 k), k1_pay6 acc.2.2 (mask1 x2 k))

/-- The three partial sums after `n` trips. -/
def sums1 (v0 : Vec F S512x128 .i8) (x1 : Vec F S8192x128 .i8) (x2 : Vec F S512x8192 .i32) (init : F .f32 × F .f32 × F .f32) :
    ℕ → F .f32 × F .f32 × F .f32
  | 0 => init
  | n + 1 => if h : n < k1_t1_loop.trips then step1 v0 x1 x2 ⟨n, h⟩ (sums1 v0 x1 x2 init n) else sums1 v0 x1 x2 init n

theorem sums1_succ (v0 : Vec F S512x128 .i8) (x1 : Vec F S8192x128 .i8) (x2 : Vec F S512x8192 .i32) (init : F .f32 × F .f32 × F .f32)
    (k : Fin k1_t1_loop.trips) : sums1 v0 x1 x2 init (k.val + 1) = step1 v0 x1 x2 k (sums1 v0 x1 x2 init k.val) := by
  rw [sums1, dif_pos k.isLt]

/-- The zeros that the loop starts from. -/
abbrev zero3 : F .f32 × F .f32 × F .f32 :=
  (Scalar.ofBits .f32 0x00000000#32, Scalar.ofBits .f32 0x00000000#32, Scalar.ofBits .f32 0x00000000#32)

/-- The grid point's three sums. -/
def tot1 (x0 : Vec F S512x128 .i8) (x1 : Vec F S8192x128 .i8) (x2 : Vec F S512x8192 .i32) : F .f32 × F .f32 × F .f32 :=
  sums1 (rows1 x0) x1 x2 zero3 k1_t1_loop.trips

/-! ## The loop -/

set_option warn.classDefReducibility false in
/-- The loop by its invariant: the two buffers that it reads, and the carried sums. -/
@[sl_loop] def loopInv1 (c : Dev nD) (bd : Option 𝒱₀.V) (E : Set ℕ) (i : grid1.Coords) (arg1 : Memref sig .tc .vmem S512x128 .i8) (harg1 : arg1.IsWhole) (arg2 : Memref sig .tc .vmem S8192x128 .i8) (harg2 : arg2.IsWhole) (arg3 : Memref sig .tc .vmem S512x8192 .i32) (harg3 : arg3.IsWhole) (arg4 : Memref sig .tc .smem S1x1x1 .f32) (harg4 : arg4.IsWhole) (arg5 : Memref sig .tc .smem S1x1x1 .f32) (harg5 : arg5.IsWhole) (arg6 : Memref sig .tc .smem S1x1x1 .f32) (harg6 : arg6.IsWhole) (v0 : Vec F S512x128 .i8)
    (X2 : BufTy.Contents (Elt F) arg2.view.ty) (X3 : BufTy.Contents (Elt F) arg3.view.ty) (init : F .f32 × F .f32 × F .f32) :
    LoopInvTy_k1_t1 (F := F) Unit ℕ UU ℕ 𝒱₀ c bd E i arg1 harg1 arg2 harg2 arg3 harg3 arg4 harg4 arg5 harg5 arg6 harg6 v0 init where
  inv k acc := iprop((arg2.view.loc (c : Thread nD τ) ↦[arg2.view.set]{fullShare} X2)
    ∗ (arg3.view.loc (c : Thread nD τ) ↦[arg3.view.set]{fullShare} X3)
    ∗ ⌜acc = sums1 v0 (arg2.view.read (Elt F) X2) (arg3.view.read (Elt F) X3) init k⌝)
  step k acc := by
    have hk : k.val < 8 := Nat.lt_of_lt_of_le k.isLt k1_t1_abs.2.1
    unfold k1_t1_body
    iintro ⟨H2, H3, %hacc⟩
    subst hacc
    rw [sums1_succ]
    sl_exec
    sl_step
    isplitl [H2]; · iexact H2
    isplitl [H3]; · iexact H3
    ipureintro
    rfl

/-! ## What the body leaves, and its triple -/

/-- The one element of an SMEM block. -/
abbrev r111 : Rect S1x1x1 := Rect.unit (s := S1x1x1) ![0, 0, 0] S1x1x1.size inb_S1x1x1_S1x1x1_0_0_0

/-- An SMEM block holding one number. -/
def one111 (x : F .f32) : Vec F S1x1x1 .f32 := View.canon [⟨r111, fun _ => x⟩]

theorem cover111 (p : Vec F S1x1x1 .f32) (y : S1x1x1.Idx) :
    ∃ pc ∈ ([⟨r111, p⟩] : List (View.Piece (Elt F) S1x1x1 .f32)), y ∈ pc.1.set :=
  View.cover_of_tiled [⟨r111, p⟩] S1x1x1.size (by rfl) y

set_option maxHeartbeats 1000000 in
/-- The body on whole staging buffers: the three inputs are left as they were, each output holds its sum. -/
theorem sound1 (c : Dev nD) (E : Set ℕ) (i : grid1.Coords) (arg1 : Memref sig .tc .vmem S512x128 .i8) (harg1 : arg1.IsWhole) (arg2 : Memref sig .tc .vmem S8192x128 .i8) (harg2 : arg2.IsWhole) (arg3 : Memref sig .tc .vmem S512x8192 .i32) (harg3 : arg3.IsWhole) (arg4 : Memref sig .tc .smem S1x1x1 .f32) (harg4 : arg4.IsWhole) (arg5 : Memref sig .tc .smem S1x1x1 .f32) (harg5 : arg5.IsWhole) (arg6 : Memref sig .tc .smem S1x1x1 .f32) (harg6 : arg6.IsWhole)
    (x0 : Vec F S512x128 .i8) (x1 : Vec F S8192x128 .i8) (x2 : Vec F S512x8192 .i32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (one111 (tot1 x0 x1 x2).1) ∗ owns (c : Thread nD τ) arg5 fullShare (one111 (tot1 x0 x1 x2).2.1)
            ∗ owns (c : Thread nD τ) arg6 fullShare (one111 (tot1 x0 x1 x2).2.2)) -∗ K ⟨⟩))
      ⊢ wp frame (wpE (defs₀ (F := F)) 𝒱₀ c none) E (cc1__main_kernel i arg1 harg1 arg2 harg2 arg3 harg3 arg4 harg4 arg5 harg5 arg6 harg6) K := by
  simp only [cc1__main_kernel_eq_skeleton]; unfold cc1__main_kernel_skel
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover111 _)
  isplitl [H4]
  · iexists _; isplitr
    swap; · iexact H4
    ipureintro
    exact View.read_writes_eq_canon _ _ _ (cover111 _)
  iexists _; isplitr
  swap; · iexact H5
  ipureintro
  exact View.read_writes_eq_canon _ _ _ (cover111 _)

/-! ## The proof data, at an entry valuation -/

variable (V : (c : Dev nD) → (b : Ref sig .tc) → Buf (Elt F) ((c : Thread nD τ).loc b))

/-- Window `w`'s block at point `t`, read off the array at the entry valuation. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The point's three sums. -/
abbrev ptot1 (c : Dev nD) (t : Fin cfg1.N) : F .f32 × F .f32 × F .f32 := tot1 (iblk1 V c 0 t) (iblk1 V c 1 t) (iblk1 V c 2 t)

/-- The proof data of one entry of the region: the arrays at `V`; after a point each input at its block and each output at
    its sum; the scoped rest untouched; nothing owed. -/
def dat1 (c : Dev nD) : Dat τ (Elt F) Unit ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => one111 (ptot1 V c t).1
    | ⟨4, _⟩ => one111 (ptot1 V c t).2.1
    | ⟨5, _⟩ => one111 (ptot1 V c t).2.2
  Φ _ := Pipeline.scopedRest (Ix := Unit) (Name := ℕ) (U := UU) (Lvl := ℕ) (Val := Elt F) spec1 c
  q _ := fullShare
  owed _ := 0

theorem A_eq1 (c : Dev nD) (w : Fin cfg1.W) : (dat1 V c).A w = V c (Pipeline.arrRef spec1 w) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = one111 (ptot1 V c t).1 := by dsimp only [dat1]
theorem after1_4 (c : Dev nD) (t : Fin cfg1.N) : (dat1 V c).after 4 t = one111 (ptot1 V c t).2.1 := by dsimp only [dat1]
theorem after1_5 (c : Dev nD) (t : Fin cfg1.N) : (dat1 V c).after 5 t = one111 (ptot1 V c t).2.2 := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]) t d).trans
    (by unfold Dat.fetched Dat.blockOf iblk1; rw [A_eq1]; rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]) t d).trans
    (by unfold Dat.fetched Dat.blockOf iblk1; rw [A_eq1]; rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]) t d).trans
    (by unfold Dat.fetched Dat.blockOf iblk1; rw [A_eq1]; rfl)

/-! ## The body obligation -/

/-- What the body is called with at point `t`, and what it returns. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) 𝒱₀ c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound1 c Set.univ (grid1.coords t) _ _ _ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem row1 (t : Fin cfg1.N) : defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) 𝒱₀ () Set.univ := fun t => by
  rw [bigSep_W1, bigSep_W1, row1]
  exact triple_restated (sound_body1 V c t) rfl .rfl fun _ => .rfl

/-! ## The region over the thread state -/

variable (adm : (p : Fin 3) → (pcfgs (F := F) p).Adm)

/-- This entry's proof data at its own pipeline, anything at the others. -/
def pdats1 : (p : Fin 3) → (c : Dev nD) → Dat τ (Elt F) Unit ℕ UU ℕ (Pipeline.pin (pcfgs (F := F)) adm p) c
  | ⟨0, _⟩ => fun c => junkDat c
  | ⟨1, _⟩ => fun c => dat1 V c
  | ⟨2, _⟩ => fun c => junkDat c

variable (Vp : (c : Dev nD) → (b : Ref sig .tc) → Buf (Elt F) ((c : Thread nD τ).loc b))

set_option backward.isDefEq.respectTransparency.types false in
/-- The region as a segment: entered with every unscoped buffer at `V`, left with them at any `Vp` that holds the three
    results' arrays as the pipeline leaves them and agrees with `V` elsewhere. -/
def reg1 (R : Dev nD → sProp 𝕄) (h3 : ∀ c, Vp c main_v4_0 = (dat1 V c).arrAt 3 cfg1.N) (h4 : ∀ c, Vp c main_v4_1 = (dat1 V c).arrAt 4 cfg1.N)
    (h5 : ∀ c, Vp c main_v4_2 = (dat1 V c).arrAt 5 cfg1.N)
    (hne : ∀ c (b : Ref sig .tc), b ≠ main_v4_0 → b ≠ main_v4_1 → b ≠ main_v4_2 → Vp c b = V c b) :
    Pipeline.RegionSeg (pcfgs (F := F)) adm (pdats1 V adm) () defs₀ 𝒱₀ L lv 1 where
  win := launch1.win.to₀
  block_pos := launch1.block_pos
  stage_whole := launch1.stage_whole
  K := PEmpty
  osem k := k.elim
  ho := Pipeline.OwnSemFacts.none _
  hbody c := (body_obligation1 V c).loose
  hwaits := Pipeline.hwaits_of_owed_zero _ _ _ _ L lv 1 fun _ _ => rfl
  pre c := iprop(unscopedBufs c (V c) ∗ R c ∗ Ow c)
  post c := iprop(unscopedBufs c (Vp c) ∗ R c ∗ Ow c)
  X _ := BI.emp
  Y _ := BI.emp
  Z c := iprop(Pipeline.unscopedRest (Ix := Unit) (Name := ℕ) (U := UU) (Lvl := ℕ) spec1 c (V c) ∗ R c)
  hentry c := by
    rw [Pipeline.ownSems0_none]
    have hsplit := Pipeline.arrays_of_unscopedBufs (p := 1) (pcfgs (F := F)) adm (pdats1 V adm) launch1.win launch1.arr_whole c
      ((pdats1 V adm 1 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats1 V adm 1 c).Φ 0 = Pipeline.scopedRest (Ix := Unit) (Name := ℕ) (U := UU) (Lvl := ℕ) (Val := Elt F) spec1 c from rfl]
    iintro ⟨-, -, Hr⟩; iexact Hr
  hout c := by
    rw [Pipeline.ownSems0_none, show (pdats1 V adm 1 c).Φ (Fin.last _) = Pipeline.scopedRest (Ix := Unit) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 1) (pcfgs (F := F)) adm (Ix := Unit) (Name := ℕ) (U := UU) (Lvl := ℕ) launch1.win launch1.arr_whole c
      (pdats1 V adm) ((pdats1 V adm 1 c).share_full fun _ => rfl) (V c) (Vp c) ((pdats1 V adm 1 c).arrAt · cfg1.N)
      (fun w => by
        fin_cases w
        · exact ((pdats1 V adm 1 c).arrAt_in 0 rfl _).trans (hne c main_v2_1 (by decide) (by decide) (by decide)).symm
        · exact ((pdats1 V adm 1 c).arrAt_in 1 rfl _).trans (hne c main_v2_2 (by decide) (by decide) (by decide)).symm
        · exact ((pdats1 V adm 1 c).arrAt_in 2 rfl _).trans (hne c main_v3 (by decide) (by decide) (by decide)).symm
        · exact (h3 c).symm
        · exact (h4 c).symm
        · exact (h5 c).symm)
      (fun b hb => hne c b (fun h => hb (h ▸ Finset.mem_image.mpr ⟨3, Finset.mem_univ _, rfl⟩))
        (fun h => hb (h ▸ Finset.mem_image.mpr ⟨4, Finset.mem_univ _, rfl⟩)) (fun h => hb (h ▸ Finset.mem_image.mpr ⟨5, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Cert.KernelIdeal.Run

end
-- ==== Proof.KernelIdeal.ExactRegion.lean ====
/-
  The region of `_exact_kernel`: the second walk over the similarity matrix, taken when the negative sum is small. One row
  block per grid point, a counted loop over eight column blocks, one carried sum.
-/
module

public import proofs.«01_k».proof.Proof.KernelIdeal.MainRegion

@[expose] public section

set_option maxRecDepth 16384

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

/-! ## What one grid point computes -/

/-- The negative sum and the row block of codes as the body loads them. -/
def neg2 (x0 : Vec F S1 .f32) : Elt F .f32 := View.ld x0 (Rect.unit (s := S1) ![0] S1.size inb_S1_S1_0) (Shape.Idx.first (numel1_S1.symm ▸ Nat.one_pos))
def rows2 (x1 : Vec F S512x128 .i8) : Vec F S512x128 .i8 :=
  View.ld x1 (Rect.unit (s := S512x128) ![0, 0] S512x128.size inb_S512x128_S512x128_0_0)

/-- The block of codes and the block of the mask that trip `k` loads. -/
def cols2 (x2 : Vec F S8192x128 .i8) (k : Fin k2_t1_loop.trips) : Vec F S1024x128 .i8 :=
  View.ld x2 (Rect.unit (s := S8192x128) (k2_off1 k) S1024x128.size (k2_off1_inb k))
def mask2 (x3 : Vec F S512x8192 .i32) (k : Fin k2_t1_loop.trips) : Vec F S512x1024 .i32 :=
  View.ld x3 (Rect.unit (s := S512x8192) (k2_off2 k) S512x1024.size (k2_off2_inb k))

/-- The carried sum after `n` trips. -/
def sum2 (v0 : Elt F .f32) (v1 : Vec F S512x128 .i8) (x2 : Vec F S8192x128 .i8) (x3 : Vec F S512x8192 .i32) (init : F .f32) : ℕ → F .f32
  | 0 => init
  | n + 1 => if h : n < k2_t1_loop.trips then k2_pay1 v0 v1 (sum2 v0 v1 x2 x3 init n) (cols2 x2 ⟨n, h⟩) (mask2 x3 ⟨n, h⟩) else sum2 v0 v1 x2 x3 init n

theorem sum2_succ (v0 : Elt F .f32) (v1 : Vec F S512x128 .i8) (x2 : Vec F S8192x128 .i8) (x3 : Vec F S512x8192 .i32) (init : F .f32)
    (k : Fin k2_t1_loop.trips) : sum2 v0 v1 x2 x3 init (k.val + 1) = k2_pay1 v0 v1 (sum2 v0 v1 x2 x3 init k.val) (cols2 x2 k) (mask2 x3 k) := by
  rw [sum2, dif_pos k.isLt]

/-- The grid point's sum. -/
def tot2 (x0 : Vec F S1 .f32) (x1 : Vec F S512x128 .i8) (x2 : Vec F S8192x128 .i8) (x3 : Vec F S512x8192 .i32) : F .f32 :=
  sum2 (neg2 x0) (rows2 x1) x2 x3 (Scalar.ofBits .f32 0x00000000#32) k2_t1_loop.trips

/-! ## The loop -/

set_option warn.classDefReducibility false in
/-- The loop by its invariant: the two buffers that it reads, and the carried sum. -/
@[sl_loop] def loopInv2 (c : Dev nD) (bd : Option 𝒱₀.V) (E : Set ℕ) (i : grid2.Coords) (arg1 : Memref sig .tc .smem S1 .f32) (harg1 : arg1.IsWhole) (arg2 : Memref sig .tc .vmem S512x128 .i8) (harg2 : arg2.IsWhole) (arg3 : Memref sig .tc .vmem S8192x128 .i8) (harg3 : arg3.IsWhole) (arg4 : Memref sig .tc .vmem S512x8192 .i32) (harg4 : arg4.IsWhole) (arg5 : Memref sig .tc .smem S1x1x1 .f32) (harg5 : arg5.IsWhole) (v0 : Elt F .f32) (v1 : Vec F S512x128 .i8)
    (X3 : BufTy.Contents (Elt F) arg3.view.ty) (X4 : BufTy.Contents (Elt F) arg4.view.ty) (init : F .f32) :
    LoopInvTy_k2_t1 (F := F) Unit ℕ UU ℕ 𝒱₀ c bd E i arg1 harg1 arg2 harg2 arg3 harg3 arg4 harg4 arg5 harg5 v0 v1 init where
  inv k acc := iprop((arg3.view.loc (c : Thread nD τ) ↦[arg3.view.set]{fullShare} X3)
    ∗ (arg4.view.loc (c : Thread nD τ) ↦[arg4.view.set]{fullShare} X4)
    ∗ ⌜acc = sum2 v0 v1 (arg3.view.read (Elt F) X3) (arg4.view.read (Elt F) X4) init k⌝)
  step k acc := by
    have hk : k.val < 8 := Nat.lt_of_lt_of_le k.isLt k2_t1_abs.2.1
    unfold k2_t1_body
    iintro ⟨H2, H3, %hacc⟩
    subst hacc
    rw [sum2_succ]
    sl_exec
    sl_step
    isplitl [H2]; · iexact H2
    isplitl [H3]; · iexact H3
    ipureintro
    rfl

/-! ## The body's triple -/

set_option maxHeartbeats 1000000 in
/-- The body on whole staging buffers: the four inputs are left as they were, the output holds the sum. -/
theorem sound2 (c : Dev nD) (E : Set ℕ) (i : grid2.Coords) (arg1 : Memref sig .tc .smem S1 .f32) (harg1 : arg1.IsWhole) (arg2 : Memref sig .tc .vmem S512x128 .i8) (harg2 : arg2.IsWhole) (arg3 : Memref sig .tc .vmem S8192x128 .i8) (harg3 : arg3.IsWhole) (arg4 : Memref sig .tc .vmem S512x8192 .i32) (harg4 : arg4.IsWhole) (arg5 : Memref sig .tc .smem S1x1x1 .f32) (harg5 : arg5.IsWhole)
    (x0 : Vec F S1 .f32) (x1 : Vec F S512x128 .i8) (x2 : Vec F S8192x128 .i8) (x3 : Vec F S512x8192 .i32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (one111 (tot2 x0 x1 x2 x3))) -∗ K ⟨⟩))
      ⊢ wp frame (wpE (defs₀ (F := F)) 𝒱₀ c none) E (cc2__exact_kernel i arg1 harg1 arg2 harg2 arg3 harg3 arg4 harg4 arg5 harg5) K := by
  simp only [cc2__exact_kernel_eq_skeleton]; unfold cc2__exact_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover111 _)

/-! ## The proof data, at an entry valuation -/

variable (V : (c : Dev nD) → (b : Ref sig .tc) → Buf (Elt F) ((c : Thread nD τ).loc b))

/-- Window `w`'s block at point `t`, read off the array at the entry valuation. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The point's sum. -/
abbrev ptot2 (c : Dev nD) (t : Fin cfg2.N) : F .f32 := tot2 (iblk2 V c 0 t) (iblk2 V c 1 t) (iblk2 V c 2 t) (iblk2 V c 3 t)

/-- The proof data of one entry of the region: the arrays at `V`; after a point each input at its block and each output at
    what the body stores; the scoped rest untouched; nothing owed. -/
def dat2 (c : Dev nD) : Dat τ (Elt F) Unit ℕ UU ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => one111 (ptot2 V c t)
  Φ _ := Pipeline.scopedRest (Ix := Unit) (Name := ℕ) (U := UU) (Lvl := ℕ) (Val := Elt F) spec2 c
  q _ := fullShare
  owed _ := 0

theorem A_eq2 (c : Dev nD) (w : Fin cfg2.W) : (dat2 V c).A w = V c (Pipeline.arrRef spec2 w) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = one111 (ptot2 V c t) := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]) t d).trans
    (by unfold Dat.fetched Dat.blockOf iblk2; rw [A_eq2]; rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]) t d).trans
    (by unfold Dat.fetched Dat.blockOf iblk2; rw [A_eq2]; rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]) t d).trans
    (by unfold Dat.fetched Dat.blockOf iblk2; rw [A_eq2]; rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]) t d).trans
    (by unfold Dat.fetched Dat.blockOf iblk2; rw [A_eq2]; rfl)

/-! ## The body obligation -/

/-- What the body is called with at point `t`, and what it returns. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem sound_body2 (c : Dev nD) (t : Fin cfg2.N) :
    bodyPre2 V c t ⊢ wp frame (wpE (defs₀ (F := F)) 𝒱₀ c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem row2 (t : Fin cfg2.N) : defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) 𝒱₀ () Set.univ := fun t => by
  rw [bigSep_W2, bigSep_W2, row2]
  exact triple_restated (sound_body2 V c t) rfl .rfl fun _ => .rfl

/-! ## The region over the thread state -/

variable (adm : (p : Fin 3) → (pcfgs (F := F) p).Adm)

/-- This entry's proof data at its own pipeline, anything at the others. -/
def pdats2 : (p : Fin 3) → (c : Dev nD) → Dat τ (Elt F) Unit ℕ UU ℕ (Pipeline.pin (pcfgs (F := F)) adm p) c
  | ⟨0, _⟩ => fun c => junkDat c
  | ⟨1, _⟩ => fun c => junkDat c
  | ⟨2, _⟩ => fun c => dat2 V c

variable (Vp : (c : Dev nD) → (b : Ref sig .tc) → Buf (Elt F) ((c : Thread nD τ).loc b))

set_option backward.isDefEq.respectTransparency.types false in
/-- The region as a segment: entered with every unscoped buffer at `V`, left with them at any `Vp` that holds the three
    results' arrays as the pipeline leaves them and agrees with `V` elsewhere. -/
def reg2 (R : Dev nD → sProp 𝕄) (h4 : ∀ c, Vp c main_case0b0_v17 = (dat2 V c).arrAt 4 cfg2.N)
    (hne : ∀ c (b : Ref sig .tc), b ≠ main_case0b0_v17 → Vp c b = V c b) :
    Pipeline.RegionSeg (pcfgs (F := F)) adm (pdats2 V adm) () defs₀ 𝒱₀ L lv 2 where
  win := launch2.win.to₀
  block_pos := launch2.block_pos
  stage_whole := launch2.stage_whole
  K := PEmpty
  osem k := k.elim
  ho := Pipeline.OwnSemFacts.none _
  hbody c := (body_obligation2 V c).loose
  hwaits := Pipeline.hwaits_of_owed_zero _ _ _ _ L lv 2 fun _ _ => rfl
  pre c := iprop(unscopedBufs c (V c) ∗ R c ∗ Ow c)
  post c := iprop(unscopedBufs c (Vp c) ∗ R c ∗ Ow c)
  X _ := BI.emp
  Y _ := BI.emp
  Z c := iprop(Pipeline.unscopedRest (Ix := Unit) (Name := ℕ) (U := UU) (Lvl := ℕ) spec2 c (V c) ∗ R c)
  hentry c := by
    rw [Pipeline.ownSems0_none]
    have hsplit := Pipeline.arrays_of_unscopedBufs (p := 2) (pcfgs (F := F)) adm (pdats2 V adm) launch2.win launch2.arr_whole c
      ((pdats2 V adm 2 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats2 V adm 2 c).Φ 0 = Pipeline.scopedRest (Ix := Unit) (Name := ℕ) (U := UU) (Lvl := ℕ) (Val := Elt F) spec2 c from rfl]
    iintro ⟨-, -, Hr⟩; iexact Hr
  hout c := by
    rw [Pipeline.ownSems0_none, show (pdats2 V adm 2 c).Φ (Fin.last _) = Pipeline.scopedRest (Ix := Unit) (Name := ℕ) (U := UU) (Lvl := ℕ) (Val := Elt F) spec2 c from rfl]
    iintro Hr
    isplitr; · iempintro
    isplitr; · iempintro
    iexact Hr
  hexit c := by
    have hjoin := Pipeline.unscopedBufs_of_arrays (p := 2) (pcfgs (F := F)) adm (Ix := Unit) (Name := ℕ) (U := UU) (Lvl := ℕ) launch2.win launch2.arr_whole c
      (pdats2 V adm) ((pdats2 V adm 2 c).share_full fun _ => rfl) (V c) (Vp c) ((pdats2 V adm 2 c).arrAt · cfg2.N)
      (fun w => by
        fin_cases w
        · exact ((pdats2 V adm 2 c).arrAt_in 0 rfl _).trans (hne c main_case0b0_v15 (by decide)).symm
        · exact ((pdats2 V adm 2 c).arrAt_in 1 rfl _).trans (hne c main_v2_1 (by decide)).symm
        · exact ((pdats2 V adm 2 c).arrAt_in 2 rfl _).trans (hne c main_v2_2 (by decide)).symm
        · exact ((pdats2 V adm 2 c).arrAt_in 3 rfl _).trans (hne c main_case0b0_v16 (by decide)).symm
        · exact (h4 c).symm)
      (fun b hb => hne c b (fun h => hb (h ▸ Finset.mem_image.mpr ⟨4, Finset.mem_univ _, rfl⟩)))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Cert.KernelIdeal.Run

end
-- ==== Proof.KernelIdeal.Main.lean ====
/-
  The run of @main: its items as segments, with every unscoped buffer at a named valuation between one item and the next.
  @main is a host stretch, the projection's region, a host stretch, the main region, a host stretch, and a branch on whether
  the sum over the negatives reaches a threshold: one arm computes the loss from the sums already at hand, the other runs a
  third region and sums its blocks. `Wend` is what the buffers hold at the end.
-/
module

public import proofs.«01_k».proof.Proof.KernelIdeal.ProjRegion
public import proofs.«01_k».proof.Proof.KernelIdeal.MainRegion
public import proofs.«01_k».proof.Proof.KernelIdeal.ExactRegion
public import Idealize.ShloMosaic.Lib.HostLoop.Lifted
public import Idealize.ShloMosaic.Lib.HostLoop.Plain

@[expose] public section

set_option maxRecDepth 16384

noncomputable section

namespace Cert.KernelIdeal.Run

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (Dat Cfg Window CSeg CaseSeg Ticket)

variable {F : FTy → Type} [FloatOps F] [Named F]

local notation "𝕄" => MT nD τ sig Unit (Elt F) ℕ UU ℕ

/-- The labels of @main over no host loops. -/
abbrev LH (F : FTy → Type) [FloatOps F] [Named F] : Labels := HostLoop.Sig (Pipeline.Sig Λ₀ (Fin 3) fun p => (pcfgs (F := F) p).Adm) 0

/-! ## The branch's operations -/

/-- The predicate widened to the word that the branch takes. -/
abbrev rdOp : HloOp τ sig (Elt F) := StableHlo.unary main_v11 main_v12 ((extui 32 · natLt_1_32) : (⟨S_, .i1⟩ : BufTy).Contents (Elt F) → (⟨S_, .i32⟩ : BufTy).Contents (Elt F))

/-- The exact arm before its region, -/
abbrev exOps0 : List (HloOp τ sig (Elt F)) :=
  [ StableHlo.nullary main_case0b0_cst_5 (constant S_ .f32 0x00000000#32),
    StableHlo.binary main_v5 main_case0b0_cst_5 main_case0b0_v14 (maximumf : (⟨S_, .f32⟩ : BufTy).Contents (Elt F) → (⟨S_, .f32⟩ : BufTy).Contents (Elt F) → (⟨S_, .f32⟩ : BufTy).Contents (Elt F)),
    StableHlo.reshape main_case0b0_v14 main_case0b0_v15 (rfl : (.f32 : EltTy) = .f32) shapeCasts_S_S1,
    StableHlo.unary main_arg2 main_case0b0_v16 ((extui 32 · natLt_1_32) : (⟨S8192x8192, .i1⟩ : BufTy).Contents (Elt F) → (⟨S8192x8192, .i32⟩ : BufTy).Contents (Elt F)) ]
/-- and after it. -/
abbrev exOps1 : List (HloOp τ sig (Elt F)) :=
  [ StableHlo.nullary main_case0b0_cst_6 (constant S_ .f32 0x00000000#32),
    StableHlo.binary main_case0b0_v17 main_case0b0_cst_6 main_case0b0_v18 ((fun x v => Host.reduceAdd x v reducesTo_S16x1x1_S_d0_1_2 h_S_) : (⟨S16x1x1, .f32⟩ : BufTy).Contents (Elt F) → (⟨S_, .f32⟩ : BufTy).Contents (Elt F) → (⟨S_, .f32⟩ : BufTy).Contents (Elt F)),
    StableHlo.binary main_case0b0_v18 main_v10 main_case0b0_v19 (Host.divf : (⟨S_, .f32⟩ : BufTy).Contents (Elt F) → (⟨S_, .f32⟩ : BufTy).Contents (Elt F) → (⟨S_, .f32⟩ : BufTy).Contents (Elt F)),
    StableHlo.unary main_case0b0_v19 main_v13 id ]
/-- The fast arm. -/
abbrev fastOps : List (HloOp τ sig (Elt F)) :=
  [ StableHlo.unary main_v5 main_case0b1_v14 (Host.log : (⟨S_, .f32⟩ : BufTy).Contents (Elt F) → (⟨S_, .f32⟩ : BufTy).Contents (Elt F)),
    StableHlo.binary main_v9 main_case0b1_v14 main_case0b1_v15 (mulf : (⟨S_, .f32⟩ : BufTy).Contents (Elt F) → (⟨S_, .f32⟩ : BufTy).Contents (Elt F) → (⟨S_, .f32⟩ : BufTy).Contents (Elt F)),
    StableHlo.binary main_case0b1_v15 main_v8 main_case0b1_v16 (subf : (⟨S_, .f32⟩ : BufTy).Contents (Elt F) → (⟨S_, .f32⟩ : BufTy).Contents (Elt F) → (⟨S_, .f32⟩ : BufTy).Contents (Elt F)),
    StableHlo.binary main_case0b1_v16 main_v10 main_case0b1_v17 (Host.divf : (⟨S_, .f32⟩ : BufTy).Contents (Elt F) → (⟨S_, .f32⟩ : BufTy).Contents (Elt F) → (⟨S_, .f32⟩ : BufTy).Contents (Elt F)),
    StableHlo.unary main_case0b1_v17 main_v13 id ]

/-- The read as printed, and the arms as printed. -/
abbrev rdProg : Prog (TpuEff nD τ sig (Elt F) (LH F) .tc) (BitVec 32) := hlo rfl (rdOp (F := F)) (HostLoop.elt main_v12)
abbrev armProg : Fin 2 → Prog (TpuEff nD τ sig (Elt F) (LH F) .tc) PUnit
  | 0 => do
      hlo rfl (StableHlo.nullary main_case0b0_cst_5 (constant S_ .f32 0x00000000#32)) (fun _ => .ret ⟨⟩)
      hlo rfl (StableHlo.binary main_v5 main_case0b0_cst_5 main_case0b0_v14 (maximumf : (⟨S_, .f32⟩ : BufTy).Contents (Elt F) → (⟨S_, .f32⟩ : BufTy).Contents (Elt F) → (⟨S_, .f32⟩ : BufTy).Contents (Elt F))) (fun _ => .ret ⟨⟩)
      hlo rfl (StableHlo.reshape main_case0b0_v14 main_case0b0_v15 (rfl : (.f32 : EltTy) = .f32) shapeCasts_S_S1) (fun _ => .ret ⟨⟩)
      hlo rfl (StableHlo.unary main_arg2 main_case0b0_v16 ((extui 32 · natLt_1_32) : (⟨S8192x8192, .i1⟩ : BufTy).Contents (Elt F) → (⟨S8192x8192, .i32⟩ : BufTy).Contents (Elt F))) (fun _ => .ret ⟨⟩)
      Prog.lift (.customCall (HostLoop.inner (Pipeline.entry 2)) ())
      hlo rfl (StableHlo.nullary main_case0b0_cst_6 (constant S_ .f32 0x00000000#32)) (fun _ => .ret ⟨⟩)
      hlo rfl (StableHlo.binary main_case0b0_v17 main_case0b0_cst_6 main_case0b0_v18 ((fun x v => Host.reduceAdd x v reducesTo_S16x1x1_S_d0_1_2 h_S_) : (⟨S16x1x1, .f32⟩ : BufTy).Contents (Elt F) → (⟨S_, .f32⟩ : BufTy).Contents (Elt F) → (⟨S_, .f32⟩ : BufTy).Contents (Elt F))) (fun _ => .ret ⟨⟩)
      hlo rfl (StableHlo.binary main_case0b0_v18 main_v10 main_case0b0_v19 (Host.divf : (⟨S_, .f32⟩ : BufTy).Contents (Elt F) → (⟨S_, .f32⟩ : BufTy).Contents (Elt F) → (⟨S_, .f32⟩ : BufTy).Contents (Elt F))) (fun _ => .ret ⟨⟩)
      hlo rfl (StableHlo.unary main_case0b0_v19 main_v13 id) (fun _ => .ret ⟨⟩)
      pure ⟨⟩
  | 1 => do
      hlo rfl (StableHlo.unary main_v5 main_case0b1_v14 (Host.log : (⟨S_, .f32⟩ : BufTy).Contents (Elt F) → (⟨S_, .f32⟩ : BufTy).Contents (Elt F))) (fun _ => .ret ⟨⟩)
      hlo rfl (StableHlo.binary main_v9 main_case0b1_v14 main_case0b1_v15 (mulf : (⟨S_, .f32⟩ : BufTy).Contents (Elt F) → (⟨S_, .f32⟩ : BufTy).Contents (Elt F) → (⟨S_, .f32⟩ : BufTy).Contents (Elt F))) (fun _ => .ret ⟨⟩)
      hlo rfl (StableHlo.binary main_case0b1_v15 main_v8 main_case0b1_v16 (subf : (⟨S_, .f32⟩ : BufTy).Contents (Elt F) → (⟨S_, .f32⟩ : BufTy).Contents (Elt F) → (⟨S_, .f32⟩ : BufTy).Contents (Elt F))) (fun _ => .ret ⟨⟩)
      hlo rfl (StableHlo.binary main_case0b1_v16 main_v10 main_case0b1_v17 (Host.divf : (⟨S_, .f32⟩ : BufTy).Contents (Elt F) → (⟨S_, .f32⟩ : BufTy).Contents (Elt F) → (⟨S_, .f32⟩ : BufTy).Contents (Elt F))) (fun _ => .ret ⟨⟩)
      hlo rfl (StableHlo.unary main_case0b1_v17 main_v13 id) (fun _ => .ret ⟨⟩)
      pure ⟨⟩
  | ⟨_ + 2, h⟩ => absurd h (Nat.not_lt.2 (Nat.le_add_left _ _))

/-- @main over the labels of no host loops, as a chain of its items. -/
theorem main_chainL (c : Dev nD) : HostLoop.liftProg (L := 0) (main (F := F) c) = (Pipeline.chain
    [ StableHlo.seq hostOps0,
      Prog.lift (.customCall (HostLoop.inner (Pipeline.entry 0)) ()),
      StableHlo.seq hostOps1,
      Prog.lift (.customCall (HostLoop.inner (Pipeline.entry 1)) ()),
      StableHlo.seq hostOps2,
      (rdProg >>= fun x => HostLoop.case 2 x armProg) ] : Prog (TpuEff nD τ sig (Elt F) (LH F) .tc) PUnit) := by
  rw [main_chain, HostLoop.liftProg_chain]
  simp only [List.map_cons, List.map_nil, HostLoop.liftProg_seq, HostLoop.liftProg_bind, HostLoop.liftProg_case]
  have harm : ∀ (b : Fin 2) (p q : Fin 2 → Prog (TpuEff nD τ sig (Elt F) (LH F) .tc) PUnit), p 0 = q 0 → p 1 = q 1 → p b = q b := by
    intro b p q h0 h1; fin_cases b
    exacts [h0, h1]
  have hitem : ∀ x : BitVec 32, ∀ p q : Fin 2 → Prog (TpuEff nD τ sig (Elt F) (LH F) .tc) PUnit, p 0 = q 0 → p 1 = q 1 →
      HostLoop.case 2 x p = HostLoop.case 2 x q := fun x p q h0 h1 => by
    rw [HostLoop.case_succ, HostLoop.case_succ]; exact harm _ p q h0 h1
  congr 1
  congr 1
  congr 1
  congr 1
  congr 1
  congr 1
  congr 1
  congr 1
  funext x
  refine hitem x _ _ ?_ ?_
  · rfl
  · rfl

/-! ## The buffers' contents between the items -/

section Fold

variable (m : (ℓ : Loc nD τ sig) → Buf (Elt F) ℓ)

/-- A valuation read at the TensorCore's references. -/
abbrev atRefs (W : Dev nD → Valuation τ sig (Elt F)) : (c : Dev nD) → (b : Ref sig .tc) → Buf (Elt F) ((c : Thread nD τ).loc b) := fun c b => W c b

/-- At the launch; after the first stretch; -/
abbrev W0 (c : Dev nD) : Valuation τ sig (Elt F) := fun b => m ((c : Dev nD), b)
abbrev W1 (c : Dev nD) : Valuation τ sig (Elt F) := after hostOps0 (W0 m c)
/-- after the projection's region; after the second stretch; -/
def W2 (c : Dev nD) : Valuation τ sig (Elt F) :=
  Function.update (Function.update (Function.update (W1 m c)
    (Proc.devRef .tc main_v2_0) ((dat0 (atRefs (W1 m)) c).arrAt 6 cfg0.N))
    (Proc.devRef .tc main_v2_1) ((dat0 (atRefs (W1 m)) c).arrAt 7 cfg0.N))
    (Proc.devRef .tc main_v2_2) ((dat0 (atRefs (W1 m)) c).arrAt 8 cfg0.N)
abbrev W3 (c : Dev nD) : Valuation τ sig (Elt F) := after hostOps1 (W2 m c)
/-- after the main region; after the third stretch; after the branch's read, and the word that it returns; -/
def W4 (c : Dev nD) : Valuation τ sig (Elt F) :=
  Function.update (Function.update (Function.update (W3 m c)
    (Proc.devRef .tc main_v4_0) ((dat1 (atRefs (W3 m)) c).arrAt 3 cfg1.N))
    (Proc.devRef .tc main_v4_1) ((dat1 (atRefs (W3 m)) c).arrAt 4 cfg1.N))
    (Proc.devRef .tc main_v4_2) ((dat1 (atRefs (W3 m)) c).arrAt 5 cfg1.N)
abbrev W5 (c : Dev nD) : Valuation τ sig (Elt F) := after hostOps2 (W4 m c)
abbrev W6 (c : Dev nD) : Valuation τ sig (Elt F) := after [rdOp] (W5 m c)
abbrev word (c : Dev nD) : BitVec 32 := W6 m c main_v12 HostLoop.idx0
/-- in the exact arm: before its region, after it, at the arm's end; -/
abbrev E1 (c : Dev nD) : Valuation τ sig (Elt F) := after exOps0 (W6 m c)
def E2 (c : Dev nD) : Valuation τ sig (Elt F) :=
  Function.update (E1 m c) (Proc.devRef .tc main_case0b0_v17) ((dat2 (atRefs (E1 m)) c).arrAt 4 cfg2.N)
abbrev E3 (c : Dev nD) : Valuation τ sig (Elt F) := after exOps1 (E2 m c)
/-- in the fast arm: at its end. -/
abbrev Q1 (c : Dev nD) : Valuation τ sig (Elt F) := after fastOps (W6 m c)

/-- What the buffers hold at the end of arm `b`, and at the end of the run. -/
def armEnd (b : Fin 2) (c : Dev nD) : Valuation τ sig (Elt F) := if b = 0 then E3 m c else Q1 m c
abbrev Wend (c : Dev nD) : Valuation τ sig (Elt F) := armEnd m (HostLoop.branch (word m c) 1) c

theorem W2_of_ne (c : Dev nD) (b : Ref sig .tc) (h0 : b ≠ main_v2_0) (h1 : b ≠ main_v2_1) (h2 : b ≠ main_v2_2) : W2 m c b = W1 m c b := by
  unfold W2
  rw [Function.update_of_ne (StableHlo.devRef_ne_of_ne h2), Function.update_of_ne (StableHlo.devRef_ne_of_ne h1),
    Function.update_of_ne (StableHlo.devRef_ne_of_ne h0)]
theorem W2_v2_0 (c : Dev nD) : W2 m c main_v2_0 = (dat0 (atRefs (W1 m)) c).arrAt 6 cfg0.N := by
  unfold W2
  rw [Function.update_of_ne (StableHlo.devRef_ne_of_ne (by decide)), Function.update_of_ne (StableHlo.devRef_ne_of_ne (by decide)), Function.update_self]
theorem W2_v2_1 (c : Dev nD) : W2 m c main_v2_1 = (dat0 (atRefs (W1 m)) c).arrAt 7 cfg0.N := by
  unfold W2
  rw [Function.update_of_ne (StableHlo.devRef_ne_of_ne (by decide)), Function.update_self]
theorem W2_v2_2 (c : Dev nD) : W2 m c main_v2_2 = (dat0 (atRefs (W1 m)) c).arrAt 8 cfg0.N := by
  unfold W2
  rw [Function.update_self]

theorem W4_of_ne (c : Dev nD) (b : Ref sig .tc) (h0 : b ≠ main_v4_0) (h1 : b ≠ main_v4_1) (h2 : b ≠ main_v4_2) : W4 m c b = W3 m c b := by
  unfold W4
  rw [Function.update_of_ne (StableHlo.devRef_ne_of_ne h2), Function.update_of_ne (StableHlo.devRef_ne_of_ne h1),
    Function.update_of_ne (StableHlo.devRef_ne_of_ne h0)]
theorem W4_v4_0 (c : Dev nD) : W4 m c main_v4_0 = (dat1 (atRefs (W3 m)) c).arrAt 3 cfg1.N := by
  unfold W4
  rw [Function.update_of_ne (StableHlo.devRef_ne_of_ne (by decide)), Function.update_of_ne (StableHlo.devRef_ne_of_ne (by decide)), Function.update_self]
theorem W4_v4_1 (c : Dev nD) : W4 m c main_v4_1 = (dat1 (atRefs (W3 m)) c).arrAt 4 cfg1.N := by
  unfold W4
  rw [Function.update_of_ne (StableHlo.devRef_ne_of_ne (by decide)), Function.update_self]
theorem W4_v4_2 (c : Dev nD) : W4 m c main_v4_2 = (dat1 (atRefs (W3 m)) c).arrAt 5 cfg1.N := by
  unfold W4
  rw [Function.update_self]

theorem E2_of_ne (c : Dev nD) (b : Ref sig .tc) (h : b ≠ main_case0b0_v17) : E2 m c b = E1 m c b := by
  unfold E2; rw [Function.update_of_ne (StableHlo.devRef_ne_of_ne h)]
theorem E2_v17 (c : Dev nD) : E2 m c main_case0b0_v17 = (dat2 (atRefs (E1 m)) c).arrAt 4 cfg2.N := by
  unfold E2; rw [Function.update_self]

end Fold

/-! ## The arguments are never written -/

section Args

variable (m : (ℓ : Loc nD τ sig) → Buf (Elt F) ℓ)

/-- @main's arguments. -/
abbrev isArg (b : Ref sig .tc) : Prop :=
  b = main_arg0 ∨ b = main_arg1 ∨ b = main_arg2 ∨ b = main_arg3 ∨ b = main_arg4 ∨ b = main_arg5 ∨ b = main_arg6

set_option maxHeartbeats 2000000 in
theorem args_ops0 (b : Ref sig .tc) (hb : isArg b) : ∀ op ∈ (hostOps0 (F := F)), Proc.devRef .tc b ∉ op.writes := by
  rcases hb with rfl | rfl | rfl | rfl | rfl | rfl | rfl <;>
    (intro op hop; fin_cases hop <;> exact fun h => StableHlo.devRef_ne_of_ne (by decide) (Finset.mem_singleton.mp h))
theorem args_ops1 (b : Ref sig .tc) (hb : isArg b) : ∀ op ∈ (hostOps1 (F := F)), Proc.devRef .tc b ∉ op.writes := by
  rcases hb with rfl | rfl | rfl | rfl | rfl | rfl | rfl <;>
    (intro op hop; fin_cases hop <;> exact fun h => StableHlo.devRef_ne_of_ne (by decide) (Finset.mem_singleton.mp h))
theorem args_ops2 (b : Ref sig .tc) (hb : isArg b) : ∀ op ∈ (hostOps2 (F := F)), Proc.devRef .tc b ∉ op.writes := by
  rcases hb with rfl | rfl | rfl | rfl | rfl | rfl | rfl <;>
    (intro op hop; fin_cases hop <;> exact fun h => StableHlo.devRef_ne_of_ne (by decide) (Finset.mem_singleton.mp h))
theorem args_rd (b : Ref sig .tc) (hb : isArg b) : ∀ op ∈ [rdOp (F := F)], Proc.devRef .tc b ∉ op.writes := by
  rcases hb with rfl | rfl | rfl | rfl | rfl | rfl | rfl <;>
    (intro op hop; fin_cases hop <;> exact fun h => StableHlo.devRef_ne_of_ne (by decide) (Finset.mem_singleton.mp h))
theorem args_ex0 (b : Ref sig .tc) (hb : isArg b) : ∀ op ∈ (exOps0 (F := F)), Proc.devRef .tc b ∉ op.writes := by
  rcases hb with rfl | rfl | rfl | rfl | rfl | rfl | rfl <;>
    (intro op hop; fin_cases hop <;> exact fun h => StableHlo.devRef_ne_of_ne (by decide) (Finset.mem_singleton.mp h))
theorem args_ex1 (b : Ref sig .tc) (hb : isArg b) : ∀ op ∈ (exOps1 (F := F)), Proc.devRef .tc b ∉ op.writes := by
  rcases hb with rfl | rfl | rfl | rfl | rfl | rfl | rfl <;>
    (intro op hop; fin_cases hop <;> exact fun h => StableHlo.devRef_ne_of_ne (by decide) (Finset.mem_singleton.mp h))
theorem args_fast (b : Ref sig .tc) (hb : isArg b) : ∀ op ∈ (fastOps (F := F)), Proc.devRef .tc b ∉ op.writes := by
  rcases hb with rfl | rfl | rfl | rfl | rfl | rfl | rfl <;>
    (intro op hop; fin_cases hop <;> exact fun h => StableHlo.devRef_ne_of_ne (by decide) (Finset.mem_singleton.mp h))

private theorem notw {ops : List (HloOp τ sig (Elt F))} {b : Ref sig .tc} (h : ∀ op ∈ ops, Proc.devRef .tc b ∉ op.writes) (V : Valuation τ sig (Elt F)) :
    after ops V b = V b := StableHlo.after_of_forall_not_mem ops V h

theorem W1_arg (c : Dev nD) (b : Ref sig .tc) (hb : isArg b) : W1 m c b = m ((c : Thread nD τ).loc b) := notw (args_ops0 b hb) _
theorem W3_arg (c : Dev nD) (b : Ref sig .tc) (hb : isArg b) : W3 m c b = m ((c : Thread nD τ).loc b) := by
  refine (notw (args_ops1 b hb) _).trans ((W2_of_ne m c b ?_ ?_ ?_).trans (W1_arg m c b hb)) <;>
    (rcases hb with rfl | rfl | rfl | rfl | rfl | rfl | rfl <;> decide)
theorem W6_arg (c : Dev nD) (b : Ref sig .tc) (hb : isArg b) : W6 m c b = m ((c : Thread nD τ).loc b) := by
  refine (notw (args_rd b hb) _).trans ((notw (args_ops2 b hb) _).trans ((W4_of_ne m c b ?_ ?_ ?_).trans (W3_arg m c b hb))) <;>
    (rcases hb with rfl | rfl | rfl | rfl | rfl | rfl | rfl <;> decide)
theorem Wend_arg (c : Dev nD) (b : Ref sig .tc) (hb : isArg b) : Wend m c b = m ((c : Thread nD τ).loc b) := by
  unfold Wend armEnd
  split
  · refine (notw (args_ex1 b hb) _).trans ((E2_of_ne m c b ?_).trans ((notw (args_ex0 b hb) _).trans (W6_arg m c b hb)))
    rcases hb with rfl | rfl | rfl | rfl | rfl | rfl | rfl <;> decide
  · exact (notw (args_fast b hb) _).trans (W6_arg m c b hb)

end Args

/-! ## The segments -/

section Segs

variable (m : (ℓ : Loc nD τ sig) → Buf (Elt F) ℓ) (g : Dev nD → PrngReg)

/-- The prefetched tables' admissible contents: no table. -/
abbrev adm : (p : Fin 3) → (pcfgs (F := F) p).Adm := fun p => (cfgs p).toPCfg_adm
/-- No host loop. -/
abbrev loops : Fin 0 → Prog (TpuEff nD τ sig (Elt F) (LH F) .tc) PUnit := fun l => l.elim0

/-- One ticket per region, each at the valuation that its region is entered at. -/
def tk : Fin 3 → Ticket (Ix := Unit) (Name := ℕ) (U := UU) (Lvl := ℕ) (nD := nD) (τ := τ) (pcfgs (F := F)) adm
  | ⟨0, _⟩ => { p := 0, pdats := pdats0 (atRefs (W1 m)) adm, EP := embAt 0 }
  | ⟨1, _⟩ => { p := 1, pdats := pdats1 (atRefs (W3 m)) adm, EP := embAt 1 }
  | ⟨2, _⟩ => { p := 2, pdats := pdats2 (atRefs (E1 m)) adm, EP := embAt 2 }

/-- What rides beside the buffers, with `R` for the arms' fact. -/
abbrev Rw (R : Dev nD → sProp (MT nD τ sig Unit (Elt F) ℕ UU ℕ)) (c : Dev nD) : sProp (MT nD τ sig Unit (Elt F) ℕ UU ℕ) := iprop(R c ∗ Ow c)
/-- Nothing; that the word names arm `b`. -/
abbrev R0 (_ : Dev nD) : sProp (MT nD τ sig Unit (Elt F) ℕ UU ℕ) := BI.emp
abbrev Rarm (b : Fin 2) (c : Dev nD) : sProp (MT nD τ sig Unit (Elt F) ℕ UU ℕ) := iprop(⌜b = HostLoop.branch (word m c) 1⌝)

/-- The two spellings of "every unscoped buffer at `W`". -/
theorem thread_eq (R : Dev nD → sProp (MT nD τ sig Unit (Elt F) ℕ UU ℕ)) (W : Valuation τ sig (Elt F)) (c : Dev nD) :
    iprop(held (c : Thread nD τ) ucRefs W ∗ Rw R c) = iprop(unscopedBufs c (fun b => W b) ∗ R c ∗ Ow c) := by
  rw [unscopedBufs_held]

theorem sub_of_forall {ops : List (HloOp τ sig (Elt F))} (h : ops.Forall fun op => op.bufs ⊆ StableHlo.tcRefs τ sig) :
    ∀ op ∈ ops, op.bufs ⊆ ucRefs := fun op hop => sub_ucRefs op ((List.forall_iff_forall_mem.mp h) op hop)
theorem exOps0_sub : (exOps0 (F := F)).Forall fun op => op.bufs ⊆ StableHlo.tcRefs τ sig :=
  ⟨StableHlo.nullary_bufs_sub .., StableHlo.binary_bufs_sub .., StableHlo.reshape_bufs_sub .., StableHlo.unary_bufs_sub ..⟩
theorem exOps1_sub : (exOps1 (F := F)).Forall fun op => op.bufs ⊆ StableHlo.tcRefs τ sig :=
  ⟨StableHlo.nullary_bufs_sub .., StableHlo.binary_bufs_sub .., StableHlo.binary_bufs_sub .., StableHlo.unary_bufs_sub ..⟩
theorem fastOps_sub : (fastOps (F := F)).Forall fun op => op.bufs ⊆ StableHlo.tcRefs τ sig :=
  ⟨StableHlo.unary_bufs_sub .., StableHlo.binary_bufs_sub .., StableHlo.binary_bufs_sub .., StableHlo.binary_bufs_sub .., StableHlo.unary_bufs_sub ..⟩

abbrev Seg (m : (ℓ : Loc nD τ sig) → Buf (Elt F) ℓ) := CSeg (pcfgs (F := F)) adm defs₀ 𝒱₀ L lv loops (tk m)

/-- The regions' records at their entries. -/
abbrev regA := reg0 (atRefs (W1 m)) adm (atRefs (W2 m)) R0 (W2_v2_0 m) (W2_v2_1 m) (W2_v2_2 m) (W2_of_ne m)
abbrev regB := reg1 (atRefs (W3 m)) adm (atRefs (W4 m)) R0 (W4_v4_0 m) (W4_v4_1 m) (W4_v4_2 m) (W4_of_ne m)
abbrev regC := reg2 (atRefs (E1 m)) adm (atRefs (E2 m)) (Rarm m 0) (E2_v17 m) (E2_of_ne m)

/-- The arms' segments. -/
def armSegs (b : Fin 2) : List (Seg m) :=
  if b = 0 then
    [ CSeg.ofOps _ _ _ _ _ _ _ _ ucRefs exOps0 (sub_of_forall exOps0_sub) (by intro op h; fin_cases h <;> rfl) (W6 m) (Rw (Rarm m 0)),
      CSeg.region _ _ () cellOf_inj _ _ _ _ _ _ (2 : Fin 3) (regC m),
      CSeg.ofOps _ _ _ _ _ _ _ _ ucRefs exOps1 (sub_of_forall exOps1_sub) (by intro op h; fin_cases h <;> rfl) (E2 m) (Rw (Rarm m 0)) ]
  else
    [ CSeg.ofOps _ _ _ _ _ _ _ _ ucRefs fastOps (sub_of_forall fastOps_sub) (by intro op h; fin_cases h <;> rfl) (W6 m) (Rw (Rarm m 1)) ]

/-- The thread state before the branch, between its read of the word `v` and the arm, and after it. -/
abbrev cpre (c : Dev nD) : sProp (MT nD τ sig Unit (Elt F) ℕ UU ℕ) := iprop(held (c : Thread nD τ) ucRefs (W5 m c) ∗ Rw R0 c)
abbrev cmid (v : BitVec 32) (c : Dev nD) : sProp (MT nD τ sig Unit (Elt F) ℕ UU ℕ) :=
  iprop(held (c : Thread nD τ) ucRefs (W6 m c) ∗ ⌜v = word m c⌝ ∗ Rw R0 c)
abbrev cpost (c : Dev nD) : sProp (MT nD τ sig Unit (Elt F) ℕ UU ℕ) := iprop(held (c : Thread nD τ) ucRefs (Wend m c) ∗ Ow c)
/-- Either arm can be taken. -/
abbrev alive : Fin (1 + 1) → Prop := fun _ => True

-- `iapply` of a rule stated for any thread at the TensorCore thread unifies only when unification may unfold
-- plain definitions in a metavariable's type
set_option backward.isDefEq.respectTransparency.types false in
/-- The read: one operation, its result read for its element. -/
theorem read_spec (c : Dev nD) (bd : Option (Variants.lift 𝒱₀).V) :
    iprop(boundary (c : Thread nD τ) ∗ cpre m c)
      ⊢ wp frame (wpE (HostLoop.defs loops (Pipeline.defs (pcfgs (F := F)) defs₀)) (Variants.lift 𝒱₀) (c : Thread nD τ) bd) Set.univ (rdProg (F := F))
          (fun v => iprop(⌜alive (HostLoop.branch v 1)⌝ ∗ boundary (c : Thread nD τ) ∗ cmid m v c)) := by
  unfold rdProg
  iintro ⟨Hb, Hh, HR⟩
  iapply (StableHlo.wp_hlo_within (Variants.lift 𝒱₀) (c : Thread nD τ) bd Set.univ (sub_ucRefs _ (StableHlo.unary_bufs_sub ..))) $$ [Hb Hh]
  · isplitl [Hb]; · iexact Hb
    iexact Hh
  iintro ⟨Hb, Hh⟩
  rw [HostLoop.elt_apply, wp_ret]; imodintro
  isplitr; · ipureintro; trivial
  isplitl [Hb]; · iexact Hb
  isplitl [Hh]; · unfold W6; rw [StableHlo.after_cons, StableHlo.after_nil]; iexact Hh
  isplitr; · ipureintro; rfl
  iexact HR

set_option backward.isDefEq.respectTransparency.types false in
/-- Each arm's segments chain from the state after the read to the state after the branch. -/
theorem arm_chains (c : Dev nD) (v : BitVec 32) :
    CSeg.ChainsAt c (cmid m v) (armSegs m (HostLoop.branch v 1)) (cpost m) := by
  have hb : HostLoop.branch v 1 = (0 : Fin 2) ∨ HostLoop.branch v 1 = (1 : Fin 2) := by
    generalize HostLoop.branch v 1 = b
    revert b; decide
  rcases hb with h | h
  · rw [h]; unfold armSegs; rw [if_pos rfl]
    refine ⟨?_, Entails.of_eq (thread_eq (Rarm m 0) _ c), Entails.of_eq (thread_eq (Rarm m 0) _ c).symm, ?_⟩
    · show iprop(held (c : Thread nD τ) ucRefs (W6 m c) ∗ ⌜v = word m c⌝ ∗ Rw R0 c)
          ⊢ iprop(held (c : Thread nD τ) ucRefs (W6 m c) ∗ ⌜(0 : Fin 2) = HostLoop.branch (word m c) 1⌝ ∗ Ow c)
      iintro ⟨Hh, %hv, -, HR⟩
      isplitl [Hh]; · iexact Hh
      isplitr; · ipureintro; rw [← hv, h]
      iexact HR
    · show iprop(held (c : Thread nD τ) ucRefs (E3 m c) ∗ ⌜(0 : Fin 2) = HostLoop.branch (word m c) 1⌝ ∗ Ow c)
          ⊢ iprop(held (c : Thread nD τ) ucRefs (Wend m c) ∗ Ow c)
      iintro ⟨Hh, %hv, HR⟩
      unfold Wend; rw [← hv]; unfold armEnd; rw [if_pos rfl]
      isplitl [Hh] <;> iassumption
  · rw [h]; unfold armSegs; rw [if_neg (by decide)]
    refine ⟨?_, ?_⟩
    · show iprop(held (c : Thread nD τ) ucRefs (W6 m c) ∗ ⌜v = word m c⌝ ∗ Rw R0 c)
          ⊢ iprop(held (c : Thread nD τ) ucRefs (W6 m c) ∗ ⌜(1 : Fin 2) = HostLoop.branch (word m c) 1⌝ ∗ Ow c)
      iintro ⟨Hh, %hv, -, HR⟩
      isplitl [Hh]; · iexact Hh
      isplitr; · ipureintro; rw [← hv, h]
      iexact HR
    · show iprop(held (c : Thread nD τ) ucRefs (Q1 m c) ∗ ⌜(1 : Fin 2) = HostLoop.branch (word m c) 1⌝ ∗ Ow c)
          ⊢ iprop(held (c : Thread nD τ) ucRefs (Wend m c) ∗ Ow c)
      iintro ⟨Hh, %hv, HR⟩
      unfold Wend; rw [← hv]; unfold armEnd; rw [if_neg (by decide)]
      isplitl [Hh] <;> iassumption

theorem arm_M (b : Fin 2) : ∀ s ∈ armSegs m b, s.M ≤ (Pipeline.pin (pcfgs (F := F)) adm 2).tripCount + 1 := by
  intro s hs
  unfold armSegs at hs
  split at hs
  · cases hs with
    | head => exact Nat.zero_le _
    | tail _ hs => cases hs with
      | head => exact le_rfl
      | tail _ hs => cases hs with
        | head => exact Nat.zero_le _
        | tail _ hs => cases hs
  · cases hs with
    | head => exact Nat.zero_le _
    | tail _ hs => cases hs

theorem arm_T (b : Fin 2) : ∀ s ∈ armSegs m b, s.T ⊆ ({2} : Finset (Fin 3)) := by
  intro s hs
  unfold armSegs at hs
  split at hs
  · cases hs with
    | head => exact Finset.empty_subset _
    | tail _ hs => cases hs with
      | head => exact subset_rfl
      | tail _ hs => cases hs with
        | head => exact Finset.empty_subset _
        | tail _ hs => cases hs
  · cases hs with
    | head => exact Finset.empty_subset _
    | tail _ hs => cases hs

theorem arm_disjoint (b : Fin 2) : (armSegs m b).Pairwise fun s s' => Disjoint s.T s'.T := by
  unfold armSegs
  split
  · refine List.pairwise_cons.mpr ⟨fun _ _ => Finset.disjoint_empty_left _, List.pairwise_cons.mpr ⟨fun s hs => ?_, List.pairwise_singleton ..⟩⟩
    cases hs with
    | head => exact Finset.disjoint_empty_right _
    | tail _ hs => cases hs
  · exact List.pairwise_singleton ..

set_option backward.isDefEq.respectTransparency.types false in
/-- An arm as printed is its segments' programs in order. -/
theorem arm_prog (b : Fin 2) : armProg (F := F) b = CSeg.runL (armSegs m b) := by
  fin_cases b
  · show armProg (F := F) 0 = CSeg.runL (armSegs m 0)
    unfold armSegs; rw [if_pos rfl]; chain_rfl
  · show armProg (F := F) 1 = CSeg.runL (armSegs m 1)
    unfold armSegs; rw [if_neg (by decide)]; chain_rfl

/-- The branch's record. -/
def condW : CaseSeg (pcfgs (F := F)) adm defs₀ 𝒱₀ L lv loops (tk m) :=
  { on := fun _ => True
    N := 1
    rd := rdProg
    br := armProg
    pre := cpre m
    mid := cmid m
    post := cpost m
    live := alive
    hrd := fun c _ bd => read_spec m c bd
    segs := armSegs m
    hch := fun c _ v _ => arm_chains m c v
    hbr := fun b _ => arm_prog m b
    B := (Pipeline.pin (pcfgs (F := F)) adm 2).tripCount + 1
    hM := fun b _ => arm_M m b
    T := {2}
    hT := fun b _ => arm_T m b
    hdisT := fun b _ => arm_disjoint m b }

/-- @main's segments. -/
def segs : List (Seg m) :=
  [ CSeg.ofOps _ _ _ _ _ _ _ _ ucRefs hostOps0 (sub_of_forall hostOps0_sub) (by intro op h; fin_cases h <;> rfl) (W0 m) (Rw R0),
    CSeg.region _ _ () cellOf_inj _ _ _ _ _ _ (0 : Fin 3) (regA m),
    CSeg.ofOps _ _ _ _ _ _ _ _ ucRefs hostOps1 (sub_of_forall hostOps1_sub) (by intro op h; fin_cases h <;> rfl) (W2 m) (Rw R0),
    CSeg.region _ _ () cellOf_inj _ _ _ _ _ _ (1 : Fin 3) (regB m),
    CSeg.ofOps _ _ _ _ _ _ _ _ ucRefs hostOps2 (sub_of_forall hostOps2_sub) (by intro op h; fin_cases h <;> rfl) (W4 m) (Rw R0),
    CSeg.case _ _ _ _ _ _ _ _ (condW m) ]

set_option backward.isDefEq.respectTransparency.types false in
theorem segs_chain : CSeg.Chains (fun c => iprop(held (c : Thread nD τ) ucRefs (W0 m c) ∗ Rw R0 c)) (segs m)
    (fun c => iprop(held (c : Thread nD τ) ucRefs (Wend m c) ∗ Ow c)) :=
  ⟨fun _ => .rfl, fun c => Entails.of_eq (thread_eq R0 _ c), fun c => Entails.of_eq (thread_eq R0 _ c).symm,
    fun c => Entails.of_eq (thread_eq R0 _ c), fun c => Entails.of_eq (thread_eq R0 _ c).symm,
    fun _ => CSeg.case_pre _ _ _ _ _ _ _ _ (condW m) trivial, fun _ => .rfl⟩

theorem segs_disjoint : (segs m).Pairwise fun s s' => Disjoint s.T s'.T := by
  unfold segs
  refine List.pairwise_cons.mpr ⟨fun _ _ => Finset.disjoint_empty_left _, List.pairwise_cons.mpr ⟨fun s hs => ?_,
    List.pairwise_cons.mpr ⟨fun _ _ => Finset.disjoint_empty_left _, List.pairwise_cons.mpr ⟨fun s hs => ?_,
    List.pairwise_cons.mpr ⟨fun _ _ => Finset.disjoint_empty_left _, List.pairwise_singleton ..⟩⟩⟩⟩⟩
  · cases hs with
    | head => exact Finset.disjoint_empty_right _
    | tail _ hs => cases hs with
      | head => exact (by decide : Disjoint ({0} : Finset (Fin 3)) {1})
      | tail _ hs => cases hs with
        | head => exact Finset.disjoint_empty_right _
        | tail _ hs => cases hs with
          | head => exact (by decide : Disjoint ({0} : Finset (Fin 3)) {2})
          | tail _ hs => cases hs
  · cases hs with
    | head => exact Finset.disjoint_empty_right _
    | tail _ hs => cases hs with
      | head => exact (by decide : Disjoint ({1} : Finset (Fin 3)) {2})
      | tail _ hs => cases hs

/-- A ticket's algebra is its index's component. -/
theorem own_tk (j : Fin 3) (x : UR sig nD τ) : (BI.own (embAt (B := Counters) j x) : sProp 𝕄) = BI.own ((tk m j).EP x) := by
  fin_cases j <;> rfl

-- the kit's implicit arguments are found by unifying its conclusion with this one, which takes unfolding plain
-- definitions in a metavariable's type
set_option backward.isDefEq.respectTransparency.types false in
/-- THE RUN: from any memory, with the semaphores at zero, every weakly fair execution of @main terminates, nothing
    faulting, and every final state has every unscoped buffer at `Wend` and every semaphore counter at zero. -/
theorem run_main : θ_run defs (onTc (τ := τ) (main (F := F))) ⟨m, fun _ => 0, g⟩
    (fun r => (∀ (c : Dev nD), ∀ b ∈ ucRefs, r.2.mem (((c : Thread nD τ)).1, b) = Wend m c b) ∧ r.2.sem = fun _ => 0) := by
  refine HostLoop.θ_run_of_lift (L := 0) loops defs main ⟨m, fun _ => 0, g⟩ _ ?_
  exact Pipeline.θ_run_regions_loop_kit_sems (pcfgs (F := F)) adm cellOf_inj defs₀ 𝒱₀ L lv loops (tk m) m g
    (fun d => HostLoop.liftProg (L := 0) (main (F := F) d)) (segs m)
    (fun c Q => by rw [main_chainL]; exact .rfl) (segs_disjoint m)
    (O₀ := 0) (hL := fun _ _ => rfl) (G := fun _ => iprop(emp))
    (u₀ := ((fun _ => initOf (Pipeline.cells (Pipeline.pin (pcfgs (F := F)) adm) cellOf_inj) (Pipeline.launchToks (Pipeline.pin (pcfgs (F := F)) adm) cellOf_inj)), 1))
    (hu₀ := by
      iintro Hu
      ihave H := (ownU_pair _ _) $$ Hu
      icases H with ⟨HP, -⟩
      ihave HP' := (own_iprod (B := Counters) _) $$ HP
      imodintro
      isplitl [HP']
      · iapply (Entails.of_eq (congrArg (bigSep Finset.univ) (funext fun j => own_tk m j _)))
        iexact HP'
      iapply (show (BI.emp : sProp 𝕄) ⊢ bigSep Finset.univ (fun _ : Dev nD => (BI.emp : sProp 𝕄)) from by rw [BI.bigSep_emp_const])
      iempintro)
    (T₀ := fun c => iprop(held (c : Thread nD τ) ucRefs (W0 m c) ∗ Rw R0 c))
    (Tₙ := fun c => held (c : Thread nD τ) ucRefs (Wend m c))
    (hch := segs_chain m)
    (hinit := by
      refine Pipeline.initEach L lv fun c => ?_
      rw [show unscopedBufs c (fun b => m ((c : Thread nD τ).loc b)) = held (c : Thread nD τ) ucRefs (W0 m c) from unscopedBufs_held c (W0 m c)]
      iintro ⟨⟨Hh, -, HO, -, -, -⟩, -⟩
      imodintro
      isplitl [Hh]; · iexact Hh
      isplitr; · iempintro
      iexists ∅; iexact HO)
    (QY := fun c s => ∀ b ∈ ucRefs, s.mem (((c : Thread nD τ)).1, b) = Wend m c b)
    (hfin := fun c s' => by
      unfold held
      iintro ⟨Hh, HSI⟩
      ihave Hp := (pointsTo_read_all ucRefs (fun b => (((c : Thread nD τ)).1, b)) (Wend m c) s') $$ [Hh HSI]
      · isplitl [Hh] <;> iassumption
      icases Hp with ⟨%hb, HSI⟩
      imodintro
      isplitr; · ipureintro; exact hb
      iexact HSI)
    (hQ := fun _ h hz => ⟨h, funext fun g => hz g (.inr (by revert g; decide))⟩)

/-- A TensorCore reference that is not scoped is among the buffers held. -/
theorem mem_ucRefs (b : Ref sig .tc) (h : (Proc.devRef .tc b : DevRef τ sig).isScoped = false) : (Proc.devRef .tc b : DevRef τ sig) ∈ ucRefs :=
  Finset.mem_filter.mpr ⟨by simp [StableHlo.tcRefs], by simp [h]⟩

/-- At the end the arguments are as launched. -/
theorem run_args (r : PUnit × MemSt nD τ sig (Elt F)) (h : ∀ (c : Dev nD), ∀ b ∈ ucRefs, r.2.mem (((c : Thread nD τ)).1, b) = Wend m c b) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(h c _ (mem_ucRefs main_arg0 rfl)).trans (Wend_arg m c _ (by decide)), (h c _ (mem_ucRefs main_arg1 rfl)).trans (Wend_arg m c _ (by decide)),
    (h c _ (mem_ucRefs main_arg2 rfl)).trans (Wend_arg m c _ (by decide)), (h c _ (mem_ucRefs main_arg3 rfl)).trans (Wend_arg m c _ (by decide)),
    (h c _ (mem_ucRefs main_arg4 rfl)).trans (Wend_arg m c _ (by decide)), (h c _ (mem_ucRefs main_arg5 rfl)).trans (Wend_arg m c _ (by decide)),
    (h c _ (mem_ucRefs main_arg6 rfl)).trans (Wend_arg m c _ (by decide))⟩

end Segs

end Cert.KernelIdeal.Run

end
-- ==== Proof.Frames.lean ====
/-
  The three frames and the named constant's statement: what does not depend on the values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Main
public import proofs.«01_k».proof.Proof.KernelIdeal.Main
public import proofs.«01_k».proof.Proof.Gen.ReferenceIdeal.Run

@[expose] public section

noncomputable section

namespace Cert.Claims

open Idealize.ShloMosaic Idealize.SL.Sem

/-- The kernel as printed runs, leaves its arguments as they were and every counter at zero. -/
theorem frame_kernel : Cert.quiescent_Kernel (hKernel := Cert.Kernel.Gen.facts) := fun m g _ =>
  (θ_run Cert.Kernel.defs _ _).mono (fun r h => ⟨fun c => Cert.Kernel.Run.run_args m r h.1 c, h.2⟩)
    (Cert.Kernel.Run.run_main (F := Bits) m g)

/-- So does its idealization, -/
theorem frame_ideal : Cert.quiescent_KernelIdeal (hKernelIdeal := Cert.KernelIdeal.Gen.facts) := fun m g _ =>
  (θ_run Cert.KernelIdeal.defs _ _).mono (fun r h => ⟨fun c => Cert.KernelIdeal.Run.run_args m r h.1 c, h.2⟩)
    (Cert.KernelIdeal.Run.run_main (F := Ideal) m g)

/-- and the reference, which declares no semaphore. -/
theorem frame_reference : Cert.quiescent_ReferenceIdeal (hReferenceIdeal := Cert.ReferenceIdeal.Gen.facts) := fun m g _ =>
  (θ_run Cert.ReferenceIdeal.defs _ _).mono (fun r h => ⟨fun c => (h c).2.2, sem_eq_zero_of_no_sems (by decide) r.2⟩)
    (Cert.ReferenceIdeal.Value.run (F := Ideal) m g)

/-- The kernel's scale is the number that its name stands for. -/
theorem preserves : Cert.preserves_Kernel_KernelIdeal :=
  IdealRules.named_const.statement Cert.KernelIdeal.κ "sim_scale" .f32 0x393B95A3#32
    (((2 / 16129) * (Real.log 2)⁻¹ : ℝ) : EReal) rfl

end Cert.Claims

end
-- ==== Proof.Value.Spec.lean ====
/-
  The mathematics of the loss, with no program in it: the projection of a row, the int8 code of a coordinate, the
  similarity of two rows of codes, the sums over all pairs, and the loss of those sums.
-/
module

public import Idealize.ShloMosaic.Lib.Pointwise
public import Idealize.ShloMosaic.Lib.IntMxu

@[expose] public section

set_option maxRecDepth 16384

noncomputable section

namespace Cert.Spec

open Idealize.ShloMosaic

/-! ## Rows -/

/-- The exponential linear unit. -/
def elu (h : EReal) : EReal := if 0 < h then h else Ideal.exp h - 1

/-- A row's projection: one hidden layer of 256 units, 128 results. -/
def proj (x : Fin 256 → EReal) (W1 : Fin 256 → Fin 256 → EReal) (b1 : Fin 256 → EReal)
    (W2 : Fin 128 → Fin 256 → EReal) (b2 : Fin 128 → EReal) (o : Fin 128) : EReal :=
  ∑ k, elu (∑ d, x d * W1 k d + b1 k) * W2 o k + b2 o

/-- The least divisor of a row, as the printed number. -/
abbrev eps : EReal := Ideal.ofBits .f32 0x2B8CBCCC#32

/-- What a row is divided by: its norm, or the least divisor. -/
def norm (z : Fin 128 → EReal) : EReal := max (Ideal.sqrt (∑ k, z k * z k)) eps

/-- A row's int8 codes: 127 times the unit row, rounded to nearest even, saturated. -/
def code (z : Fin 128 → EReal) (o : Fin 128) : BitVec 8 :=
  Ideal.fptosi 8 (Ideal.liftRound Ideal.roundHalfEven (Ideal.div (z o * Ideal.ofBits .f32 0x42FE0000#32) (norm z)))

/-! ## Numbers that the programs spell as bits -/

theorem bits_127 : Ideal.ofBits .f32 0x42FE0000#32 = ((127 : ℝ) : EReal) := by
  simp [Ideal.ofBits, Ideal.ieee, -EReal.coe_mul]; norm_num
theorem bits_neg128 : Ideal.ofBits .f32 0xC3000000#32 = ((-128 : ℝ) : EReal) := by
  simp [Ideal.ofBits, Ideal.ieee, -EReal.coe_mul, -EReal.coe_neg]; norm_num
theorem bits_16129 : Ideal.ofBits .f32 0x467C0400#32 = ((16129 : ℝ) : EReal) := by
  simp [Ideal.ofBits, Ideal.ieee, -EReal.coe_mul]; norm_num
theorem bits_half : Ideal.ofBits .f32 0x3F000000#32 = ((1 / 2 : ℝ) : EReal) := by
  simp [Ideal.ofBits, Ideal.ieee, -EReal.coe_mul]; norm_num
theorem bits_two : Ideal.ofBits .f32 0x40000000#32 = ((2 : ℝ) : EReal) := by
  simp [Ideal.ofBits, Ideal.ieee, -EReal.coe_mul]; norm_num
theorem bits_million : Ideal.ofBits .f32 0x49742400#32 = ((1000000 : ℝ) : EReal) := by
  simp [Ideal.ofBits, Ideal.ieee, -EReal.coe_mul]; norm_num
theorem eps_pos : 0 < eps := by
  simp [eps, Ideal.ofBits, Ideal.ieee, -EReal.coe_mul]

theorem norm_ne_zero (z : Fin 128 → EReal) : norm z ≠ 0 := ne_of_gt (lt_of_lt_of_le eps_pos (le_max_right _ _))

/-! ## The code as a clipped number -/

/-- A word's integer, truncated and saturated, is the number clipped where the number is an integer or infinite. -/
theorem toInt_fptosi (x : EReal) :
    (((Ideal.fptosi 8 (Ideal.liftRound Ideal.roundHalfEven x)).toInt : ℝ) : EReal)
      = min ((127 : ℝ) : EReal) (max ((-128 : ℝ) : EReal) (Ideal.liftRound Ideal.roundHalfEven x)) := by
  have word : ∀ n : ℤ, -128 ≤ n → n ≤ 127 → (BitVec.ofInt 8 n).toInt = n := by
    intro n h1 h2
    rw [BitVec.toInt_ofInt]
    apply Int.bmod_eq_of_le <;> omega
  induction x using EReal.rec with
  | bot =>
    simp only [Ideal.liftRound_bot, Ideal.fptosi, Ideal.toIntClamped_bot]
    rw [word _ (by norm_num) (by norm_num)]
    rw [max_eq_left bot_le, min_eq_right (by exact_mod_cast (by norm_num : (-128 : ℝ) ≤ 127))]
    norm_num
  | top =>
    simp only [Ideal.liftRound_top, Ideal.fptosi, Ideal.toIntClamped_top]
    rw [word _ (by norm_num) (by norm_num)]
    rw [max_eq_right le_top, min_eq_left le_top]
    norm_num
  | coe r =>
    simp only [Ideal.liftRound_coe, Ideal.fptosi, Ideal.toIntClamped_coe]
    have e : (if (0 : ℝ) ≤ ((Ideal.roundHalfEven r : ℤ) : ℝ) then ⌊((Ideal.roundHalfEven r : ℤ) : ℝ)⌋ else ⌈((Ideal.roundHalfEven r : ℤ) : ℝ)⌉)
        = Ideal.roundHalfEven r := by simp
    rw [e]
    generalize Ideal.roundHalfEven r = n
    rw [word _ (by norm_num) (by norm_num)]
    rw [← EReal.coe_strictMono.monotone.map_max, ← EReal.coe_strictMono.monotone.map_min]
    congr 1
    norm_num
    rw [max_min_distrib_left, max_eq_right (by norm_num : (-128 : ℝ) ≤ 127)]

/-- The code, as the reference states it. -/
theorem code_toInt (z : Fin 128 → EReal) (o : Fin 128) :
    min ((127 : ℝ) : EReal) (max ((-128 : ℝ) : EReal)
        (Ideal.liftRound Ideal.roundHalfEven (((127 : ℝ) : EReal) * Ideal.div (z o) (norm z))))
      = (((code z o).toInt : ℝ) : EReal) := by
  rw [code, toInt_fptosi, bits_127]
  simp only [Ideal.div, if_neg (norm_ne_zero z)]
  rw [mul_comm (z o) ((127 : ℝ) : EReal), mul_assoc]

/-! ## Pairs -/

/-- The integer product of two rows of codes, -/
def dot (a b : Fin 128 → BitVec 8) : ℤ := ∑ k, (a k).toInt * (b k).toInt

/-- the similarity it stands for, -/
def sim (a b : Fin 128 → BitVec 8) : ℝ := (dot a b : ℝ) * (2 / 16129)

/-- and its exponential. -/
def expSim (a b : Fin 128 → BitVec 8) : ℝ := Real.exp (sim a b)

theorem dot_comm (a b : Fin 128 → BitVec 8) : dot a b = dot b a := Finset.sum_congr rfl fun _ _ => mul_comm _ _
theorem sim_comm (a b : Fin 128 → BitVec 8) : sim a b = sim b a := by rw [sim, sim, dot_comm]
theorem expSim_comm (a b : Fin 128 → BitVec 8) : expSim a b = expSim b a := by rw [expSim, expSim, sim_comm]
theorem expSim_pos (a b : Fin 128 → BitVec 8) : 0 < expSim a b := Real.exp_pos _

/-! ## Sums over all pairs -/

/-- Rows of codes, and the mask of the positive pairs. -/
abbrev Codes := Fin 8192 → Fin 128 → BitVec 8
abbrev Mask := Fin 8192 → Fin 8192 → BitVec 1

variable (A B : Codes) (M : Mask)

/-- The exponentials of the pairs that are not positive, -/
def neg : ℝ := ∑ i, ∑ j, if M i j = 1#1 then 0 else expSim (A i) (B j)
/-- the similarities of the positive pairs, -/
def pos : ℝ := ∑ i, ∑ j, if M i j = 1#1 then sim (A i) (B j) else 0
/-- how many they are, -/
def cnt : ℝ := ∑ i : Fin 8192, ∑ j : Fin 8192, if M i j = 1#1 then 1 else 0
/-- and their losses over a denominator that may depend on the pair. -/
def val (den : Fin 8192 → Fin 8192 → ℝ) : ℝ :=
  ∑ i, ∑ j, if M i j = 1#1 then -Real.log (expSim (A i) (B j) / den i j) else 0

theorem neg_nonneg : 0 ≤ neg A B M :=
  Finset.sum_nonneg fun i _ => Finset.sum_nonneg fun j _ => by split_ifs; exacts [le_rfl, (expSim_pos _ _).le]

/-- The denominator of a pair: a positive's own term counts only beside a negative sum below a million. -/
def den (i j : Fin 8192) : ℝ := if 1000000 ≤ neg A B M then neg A B M else expSim (A i) (B j) + neg A B M

theorem den_pos (i j : Fin 8192) : 0 < den A B M i j := by
  unfold den
  split_ifs with h
  · linarith
  · have := expSim_pos (A i) (B j); have := neg_nonneg A B M; linarith

/-- The loss of one direction. -/
def loss : ℝ := val A B M (den A B M) / max (cnt M) 1

/-- Over one denominator the logarithm leaves the sum. -/
theorem val_const (D : ℝ) (hD : 0 < D) : val A B M (fun _ _ => D) = cnt M * Real.log D - pos A B M := by
  unfold val cnt pos
  rw [Finset.sum_mul, ← Finset.sum_sub_distrib]
  refine Finset.sum_congr rfl fun i _ => ?_
  rw [Finset.sum_mul, ← Finset.sum_sub_distrib]
  refine Finset.sum_congr rfl fun j _ => ?_
  split_ifs
  · rw [Real.log_div (expSim_pos _ _).ne' hD.ne', expSim, Real.log_exp]; ring
  · ring

theorem loss_of_le (h : 1000000 ≤ neg A B M) :
    loss A B M = (cnt M * Real.log (neg A B M) - pos A B M) / max (cnt M) 1 := by
  rw [loss, ← val_const A B M _ (by linarith)]
  congr 2
  funext i j
  rw [den, if_pos h]

theorem loss_of_lt (h : ¬ 1000000 ≤ neg A B M) :
    loss A B M = val A B M (fun i j => expSim (A i) (B j) + neg A B M) / max (cnt M) 1 := by
  rw [loss]
  congr 2
  funext i j
  rw [den, if_neg h]

/-! ## The other direction: codes exchanged, the mask transposed -/

theorem neg_swap : neg B A (fun i j => M j i) = neg A B M := by
  unfold neg
  rw [Finset.sum_comm]
  simp only [expSim_comm (B _) (A _)]
theorem cnt_swap : cnt (fun i j => M j i) = cnt M := by
  unfold cnt
  rw [Finset.sum_comm]
theorem loss_swap : loss B A (fun i j => M j i) = loss A B M := by
  unfold loss
  rw [cnt_swap]
  congr 1
  unfold val den
  rw [Finset.sum_comm]
  simp only [neg_swap, expSim_comm (B _) (A _)]

/-! ## From extended reals to reals -/

theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

theorem coe_sum_sum {m n : ℕ} (f : Fin m → Fin n → ℝ) : ∑ i, ∑ j, ((f i j : ℝ) : EReal) = ((∑ i, ∑ j, f i j : ℝ) : EReal) := by
  rw [← coe_sum]
  exact Finset.sum_congr rfl fun i _ => coe_sum _ _

theorem div_real (x : ℝ) {y : ℝ} (h : y ≠ 0) : Ideal.div (x : EReal) (y : EReal) = ((x / y : ℝ) : EReal) := by
  rw [Ideal.div_coe h, ← EReal.coe_mul, mul_one_div]
theorem log_real {x : ℝ} (h : 0 < x) : Ideal.log (x : EReal) = ((Real.log x : ℝ) : EReal) := by
  rw [Ideal.log_coe, if_neg (not_le.mpr h)]
theorem max_real (x y : ℝ) : max (x : EReal) (y : EReal) = ((max x y : ℝ) : EReal) :=
  (EReal.coe_strictMono.monotone.map_max).symm

theorem cnt_max_pos : 0 < max (cnt M) 1 := lt_of_lt_of_le one_pos (le_max_right _ _)

/-- A sum over blocks of rows and blocks of columns is the sum over all pairs. -/
theorem sum_blocks (f : Fin 8192 → Fin 8192 → EReal) :
    ∑ t : Fin 16, ∑ k : Fin 8, ∑ r : Fin 512, ∑ l : Fin 1024,
        f ⟨t.val * 512 + r.val, by omega⟩ ⟨k.val * 1024 + l.val, by omega⟩
      = ∑ i, ∑ j, f i j := by
  rw [Fin.sum_univ_tiles 16 512 rfl (fun i => ∑ j, f i j)]
  refine Finset.sum_congr rfl fun t _ => ?_
  rw [Finset.sum_comm]
  refine Finset.sum_congr rfl fun r _ => ?_
  rw [Fin.sum_univ_tiles 8 1024 rfl (fun j => f _ j)]

end Cert.Spec

end
-- ==== Proof.Value.Blocks.lean ====
/-
  What one block of each kernel computes, over the extended reals: the payloads at an index.
-/
module

public import proofs.«01_k».proof.Proof.KernelIdeal.Main
public import proofs.«01_k».proof.Proof.Value.Spec
public import Idealize.ShloMosaic.Lib.Pipeline.ValueKit

@[expose] public section

set_option maxRecDepth 16384

noncomputable section

namespace Cert.KernelIdeal.Block

open Cert.KernelIdeal Cert.KernelIdeal.Gen Cert.KernelIdeal.Run
open Idealize.ShloMosaic

/-! ## The projection -/

theorem pay5 (v0 : FVec Ideal S256x256 .f32) (v1 : FVec Ideal S1x256 .f32) (v3 : FVec Ideal S128x256 .f32)
    (v4 : FVec Ideal S1x128 .f32) (v6 : FVec Ideal S1024x256 .f32) (r : Fin 1024) (o : Fin 128) :
    k0_pay5 (F := Ideal) v0 v1 v3 v4 v6 (ix2 r o)
      = Spec.proj (fun d => v6 (ix2 r d)) (fun k d => v0 (ix2 k d)) (fun k => v1 (ix2 0 k)) (fun q k => v3 (ix2 q k))
          (fun q => v4 (ix2 0 q)) o := by
  pointwise [k0_pay5, k0_pay3, k0_pay4, Spec.proj, Spec.elu]

theorem pay6 (v0 : FVec Ideal S256x256 .f32) (v1 : FVec Ideal S1x256 .f32) (v3 : FVec Ideal S128x256 .f32)
    (v4 : FVec Ideal S1x128 .f32) (v6 : FVec Ideal S1024x256 .f32) (r : Fin 1024) (o : Fin 128) :
    k0_pay6 (F := Ideal) v0 v1 v3 v4 v6 (ix2 r o)
      = Spec.proj (fun d => v6 (ix2 r d)) (fun k d => v0 (ix2 k d)) (fun k => v1 (ix2 0 k)) (fun q k => v3 (ix2 q k))
          (fun q => v4 (ix2 0 q)) o := by
  pointwise [k0_pay6, k0_pay3, k0_pay4, Spec.proj, Spec.elu]

theorem pay1 (z : FVec Ideal S1024x128 .f32) (r : Fin 1024) (o : Fin 128) :
    k0_pay1 (F := Ideal) z (ix2 r o) = Spec.code (fun q => z (ix2 r q)) o := by
  pointwise [k0_pay1, Spec.code, Spec.norm, Spec.eps]
  rfl

theorem pay2 (z : FVec Ideal S1024x128 .f32) (r : Fin 1024) (o : Fin 128) :
    k0_pay2 (F := Ideal) z (ix2 r o) = Spec.code (fun q => z (ix2 r q)) o := by
  pointwise [k0_pay2, Spec.code, Spec.norm, Spec.eps]
  rfl

/-! ## The similarity -/

/-- The scale is the number that its name stands for. -/
theorem scale : (Named.named κ "sim_scale" 0x393B95A3#32 : Ideal .f32) = (((2 / 16129) * (Real.log 2)⁻¹ : ℝ) : EReal) := rfl

/-- The unit's integer product of two blocks of codes is exact: no sum of 128 products leaves its range. -/
theorem dot_toInt (v0 : IVec S512x128 8) (v9 : IVec S1024x128 8) (r : Fin 512) (l : Fin 1024) :
    (matmulI8 IntMxuNumerics.v7x dot_S512x128_S1024x128_S512x1024_1_1_0_0_n_n v0 v9 (constantI S512x1024 32 0#32) (ix2 r l)).toInt
      = Spec.dot (fun k => v0 (ix2 r k)) (fun k => v9 (ix2 l k)) := by
  rw [matmulI8_toInt _ _ _ _ _ _ rfl ((absDotI8_le_numel _ _ _ _).trans (by decide))]
  unfold dotI8 Spec.dot
  rw [DotDims.sum_contr₁ _ (a := (1 : Fin 2)) rfl (K := 128) rfl]
  refine Finset.sum_congr rfl fun k _ => ?_
  have hl : dot_S512x128_S1024x128_S512x1024_1_1_0_0_n_n.lhsIdx (ix2 r l)
      (DotDims.contrIdx₁ _ (a := (1 : Fin 2)) rfl (K := 128) rfl k) = ix2 r k := by
    funext a
    match a with
    | ⟨0, _⟩ => rfl
    | ⟨1, _⟩ => rfl
  have hr : dot_S512x128_S1024x128_S512x1024_1_1_0_0_n_n.rhsIdx (ix2 r l)
      (DotDims.contrIdx₁ _ (a := (1 : Fin 2)) rfl (K := 128) rfl k) = ix2 l k := by
    funext a
    match a with
    | ⟨0, _⟩ => rfl
    | ⟨1, _⟩ => rfl
  rw [hl, hr]

/-- The exponent that the kernel raises two to. -/
theorem scaled (v0 : IVec S512x128 8) (v9 : IVec S1024x128 8) (r : Fin 512) (l : Fin 1024) :
    k1_pay1 (F := Ideal) v0 v9 (ix2 r l)
      = ((Spec.sim (fun k => v0 (ix2 r k)) (fun k => v9 (ix2 l k)) * (Real.log 2)⁻¹ : ℝ) : EReal) := by
  pointwise [k1_pay1]
  rw [scale]
  change (((matmulI8 _ _ _ _ _ _).toInt : ℝ) : EReal) * _ = _
  rw [dot_toInt, ← EReal.coe_mul, Spec.sim, mul_assoc]

theorem exp2_scaled (s : ℝ) : Ideal.exp2 ((s * (Real.log 2)⁻¹ : ℝ) : EReal) = ((Real.exp s : ℝ) : EReal) := by
  rw [Ideal.exp2_coe]
  congr 1
  have h : Real.log 2 ≠ 0 := (Real.log_pos one_lt_two).ne'
  change (2 : ℝ) ^ (s * (Real.log 2)⁻¹) = _
  rw [Real.rpow_def_of_pos two_pos]
  congr 1
  field_simp

/-! ## One trip's sums -/

/-- Whether a word of the widened mask marks a positive pair. -/
def on (w : BitVec 32) : BitVec 1 := IntOp.cmpi .ne w 0#32

theorem on_widened : ∀ b : BitVec 1, on (BitVec.setWidth 32 b) = b := by decide

theorem widened_toInt : ∀ b : BitVec 1, ((BitVec.setWidth 32 b).toInt : ℤ) = if b = 1#1 then 1 else 0 := by decide

/-- What one pair adds to each sum of the main kernel and to the exact kernel's. -/
def negTerm (a b : Fin 128 → BitVec 8) (w : BitVec 1) : EReal := ((if w = 1#1 then 0 else Spec.expSim a b : ℝ) : EReal)
def posTerm (a b : Fin 128 → BitVec 8) (w : BitVec 1) : EReal :=
  (((if w = 1#1 then Spec.sim a b else 0) * (Real.log 2)⁻¹ : ℝ) : EReal)
def cntTerm (w : BitVec 1) : EReal := ((if w = 1#1 then 1 else 0 : ℝ) : EReal)
def valTerm (n : ℝ) (a b : Fin 128 → BitVec 8) (w : BitVec 1) : EReal :=
  ((if w = 1#1 then -Real.log (Spec.expSim a b / (Spec.expSim a b + n)) else 0 : ℝ) : EReal)

/-- The mask as numbers. -/
theorem mask_num (v18 : IVec S512x1024 32) (r : Fin 512) (l : Fin 1024) :
    k1_pay3 (F := Ideal) v18 (ix2 r l) = cntTerm (on (v18 (ix2 r l))) := by
  pointwise [k1_pay3, k1_pay2]
  change (((BitVec.setWidth 32 (on (v18 (ix2 r l)))).toInt : ℝ) : EReal) = _
  rw [widened_toInt, cntTerm]
  split_ifs <;> norm_num

theorem neg_step (v0 : IVec S512x128 8) (v9 : IVec S1024x128 8) (v18 : IVec S512x1024 32) (a : EReal) :
    k1_pay4 (F := Ideal) v0 a v9 v18
      = a + ∑ r, ∑ l, negTerm (fun k => v0 (ix2 r k)) (fun k => v9 (ix2 l k)) (on (v18 (ix2 r l))) := by
  pointwise [k1_pay4, k1_pay2]
  refine congrArg (a + ·) (Finset.sum_congr rfl fun r _ => Finset.sum_congr rfl fun l _ => ?_)
  rw [scaled, negTerm]
  change Scalar.select (on _) _ (Ideal.exp2 _) = _
  rw [exp2_scaled, Scalar.select]
  split_ifs <;> first | rfl | simp_all

theorem pos_step (v0 : IVec S512x128 8) (v9 : IVec S1024x128 8) (v18 : IVec S512x1024 32) (a : EReal) :
    k1_pay5 (F := Ideal) v0 a v9 v18
      = a + ∑ r, ∑ l, posTerm (fun k => v0 (ix2 r k)) (fun k => v9 (ix2 l k)) (on (v18 (ix2 r l))) := by
  pointwise [k1_pay5]
  refine congrArg (a + ·) (Finset.sum_congr rfl fun r _ => Finset.sum_congr rfl fun l _ => ?_)
  rw [scaled, mask_num, posTerm, cntTerm, ← EReal.coe_mul]
  congr 1
  split_ifs <;> ring

theorem cnt_step (v18 : IVec S512x1024 32) (a : EReal) :
    k1_pay6 (F := Ideal) a v18 = a + ∑ r, ∑ l, cntTerm (on (v18 (ix2 r l))) := by
  pointwise [k1_pay6]
  refine congrArg (a + ·) (Finset.sum_congr rfl fun r _ => Finset.sum_congr rfl fun l _ => ?_)
  rw [mask_num]

theorem val_step (n : ℝ) (hn : 0 ≤ n) (v0 : IVec S512x128 8) (v9 : IVec S1024x128 8) (v18 : IVec S512x1024 32) (a : EReal) :
    k2_pay1 (F := Ideal) (n : EReal) v0 a v9 v18
      = a + ∑ r, ∑ l, valTerm n (fun k => v0 (ix2 r k)) (fun k => v9 (ix2 l k)) (on (v18 (ix2 r l))) := by
  pointwise [k2_pay1]
  refine congrArg (a + ·) (Finset.sum_congr rfl fun r _ => Finset.sum_congr rfl fun l _ => ?_)
  have hs := scaled v0 v9 r l
  pointwise [k1_pay1] at hs
  have hm := mask_num v18 r l
  pointwise [k1_pay3, k1_pay2] at hm
  rw [hs, hm]
  change (0 - Ideal.log (Ideal.div (Ideal.exp2 _) (Ideal.exp2 _ + _))) * _ = _
  generalize hA : (fun k => v0 (ix2 r k)) = A
  generalize hB : (fun k => v9 (ix2 l k)) = B
  have hp := Spec.expSim_pos A B
  rw [exp2_scaled]
  change (0 - Ideal.log (Ideal.div ((Spec.expSim A B : ℝ) : EReal) (((Spec.expSim A B : ℝ) : EReal) + (n : EReal)))) * _ = _
  rw [← EReal.coe_add, Spec.div_real _ (by linarith), Spec.log_real (div_pos hp (by linarith)), zero_sub, ← EReal.coe_neg,
    cntTerm, ← EReal.coe_mul, valTerm]
  congr 1
  split_ifs <;> ring

/-! ## The loads, and the sums of all trips -/

theorem trips1 : k1_t1_loop.trips = 8 := by decide +kernel
theorem trips2 : k2_t1_loop.trips = 8 := by decide +kernel
theorem col1 (k : Fin k1_t1_loop.trips) (l : Fin 1024) : k.val * 1024 + l.val < 8192 := by
  have := Nat.lt_of_lt_of_eq k.isLt trips1; omega
theorem col2 (k : Fin k2_t1_loop.trips) (l : Fin 1024) : k.val * 1024 + l.val < 8192 := by
  have := Nat.lt_of_lt_of_eq k.isLt trips2; omega
theorem off11 : ∀ k : Fin k1_t1_loop.trips, k1_off1 k = ![k.val * 1024, 0] := by decide +kernel
theorem off12 : ∀ k : Fin k1_t1_loop.trips, k1_off2 k = ![0, k.val * 1024] := by decide +kernel
theorem off21 : ∀ k : Fin k2_t1_loop.trips, k2_off1 k = ![k.val * 1024, 0] := by decide +kernel
theorem off22 : ∀ k : Fin k2_t1_loop.trips, k2_off2 k = ![0, k.val * 1024] := by decide +kernel

theorem rows1_eq (x0 : Vec Ideal S512x128 .i8) : rows1 x0 = x0 := by
  unfold rows1
  exact View.ld_unit_lit' _ _ (by decide)
theorem rows2_eq (x0 : Vec Ideal S512x128 .i8) : rows2 x0 = x0 := by
  unfold rows2
  exact View.ld_unit_lit' _ _ (by decide)

theorem cols1_apply (x1 : Vec Ideal S8192x128 .i8) (k : Fin k1_t1_loop.trips) (l : Fin 1024) (q : Fin 128) (h : k.val * 1024 + l.val < 8192) :
    cols1 x1 k (ix2 l q) = x1 (ix2 ⟨k.val * 1024 + l.val, h⟩ q) := by
  refine View.ld_unit_apply_of _ _ _ _ _ _ fun a => ?_
  match a with
  | ⟨0, _⟩ => exact congrArg (· + l.val) (congrFun (off11 k) 0).symm
  | ⟨1, _⟩ => exact (Nat.zero_add _).symm.trans (congrArg (· + q.val) (congrFun (off11 k) 1).symm)
theorem mask1_apply (x2 : Vec Ideal S512x8192 .i32) (k : Fin k1_t1_loop.trips) (r : Fin 512) (l : Fin 1024) (h : k.val * 1024 + l.val < 8192) :
    mask1 x2 k (ix2 r l) = x2 (ix2 r ⟨k.val * 1024 + l.val, h⟩) := by
  refine View.ld_unit_apply_of _ _ _ _ _ _ fun a => ?_
  match a with
  | ⟨0, _⟩ => exact (Nat.zero_add _).symm.trans (congrArg (· + r.val) (congrFun (off12 k) 0).symm)
  | ⟨1, _⟩ => exact congrArg (· + l.val) (congrFun (off12 k) 1).symm
theorem cols2_apply (x1 : Vec Ideal S8192x128 .i8) (k : Fin k2_t1_loop.trips) (l : Fin 1024) (q : Fin 128) (h : k.val * 1024 + l.val < 8192) :
    cols2 x1 k (ix2 l q) = x1 (ix2 ⟨k.val * 1024 + l.val, h⟩ q) := by
  refine View.ld_unit_apply_of _ _ _ _ _ _ fun a => ?_
  match a with
  | ⟨0, _⟩ => exact congrArg (· + l.val) (congrFun (off21 k) 0).symm
  | ⟨1, _⟩ => exact (Nat.zero_add _).symm.trans (congrArg (· + q.val) (congrFun (off21 k) 1).symm)
theorem mask2_apply (x2 : Vec Ideal S512x8192 .i32) (k : Fin k2_t1_loop.trips) (r : Fin 512) (l : Fin 1024) (h : k.val * 1024 + l.val < 8192) :
    mask2 x2 k (ix2 r l) = x2 (ix2 r ⟨k.val * 1024 + l.val, h⟩) := by
  refine View.ld_unit_apply_of _ _ _ _ _ _ fun a => ?_
  match a with
  | ⟨0, _⟩ => exact (Nat.zero_add _).symm.trans (congrArg (· + r.val) (congrFun (off22 k) 0).symm)
  | ⟨1, _⟩ => exact congrArg (· + l.val) (congrFun (off22 k) 1).symm

/-- A recursion that adds a term per trip, over eight trips. -/
theorem sum_of_steps {n : ℕ} (hn : n = 8) (f : ℕ → EReal) (g : Fin n → EReal) (h0 : f 0 = 0)
    (hs : ∀ k : Fin n, f (k.val + 1) = f k.val + g k) : f n = ∑ k : Fin 8, g (k.cast hn.symm) := by
  subst hn
  simp only [Fin.sum_univ_eight, Fin.cast_eq_self]
  have e := fun k : Fin 8 => hs k
  have e0 := e 0; have e1 := e 1; have e2 := e 2; have e3 := e 3; have e4 := e 4; have e5 := e 5; have e6 := e 6; have e7 := e 7
  simp only [Fin.isValue, Fin.val_zero, Fin.val_one] at e0 e1
  change f 8 = _
  change f 1 = _ at e0
  change f 2 = _ at e1
  change f 3 = f 2 + _ at e2
  change f 4 = f 3 + _ at e3
  change f 5 = f 4 + _ at e4
  change f 6 = f 5 + _ at e5
  change f 7 = f 6 + _ at e6
  change f 8 = f 7 + _ at e7
  rw [e7, e6, e5, e4, e3, e2, e1, e0, h0, zero_add]

variable (x0 : IVec S512x128 8) (x1 : IVec S8192x128 8) (x2 : IVec S512x8192 32)

theorem zero_bits : (Scalar.ofBits .f32 0x00000000#32 : Ideal .f32) = 0 := Ideal.ofBits_zero_f32

theorem tot1_neg : (tot1 (F := Ideal) x0 x1 x2).1 = ∑ k : Fin 8, ∑ r : Fin 512, ∑ l : Fin 1024,
    negTerm (fun q => x0 (ix2 r q)) (fun q => x1 (ix2 ⟨k.val * 1024 + l.val, by omega⟩ q)) (on (x2 (ix2 r ⟨k.val * 1024 + l.val, by omega⟩))) := by
  unfold tot1
  rw [rows1_eq]
  refine sum_of_steps trips1 (fun n => (sums1 (F := Ideal) x0 x1 x2 zero3 n).1) (fun k => ∑ r : Fin 512, ∑ l : Fin 1024,
    negTerm (fun q => x0 (ix2 r q)) (fun q => x1 (ix2 ⟨k.val * 1024 + l.val, col1 k l⟩ q))
      (on (x2 (ix2 r ⟨k.val * 1024 + l.val, col1 k l⟩)))) zero_bits fun k => ?_
  rw [sums1_succ]
  unfold step1
  dsimp only
  rw [neg_step]
  refine congrArg (_ + ·) (Finset.sum_congr rfl fun r _ => Finset.sum_congr rfl fun l _ => ?_)
  have hk := col1 k l
  rw [mask1_apply _ _ _ _ hk]
  simp only [cols1_apply _ _ _ _ hk]

theorem tot1_pos : (tot1 (F := Ideal) x0 x1 x2).2.1 = ∑ k : Fin 8, ∑ r : Fin 512, ∑ l : Fin 1024,
    posTerm (fun q => x0 (ix2 r q)) (fun q => x1 (ix2 ⟨k.val * 1024 + l.val, by omega⟩ q)) (on (x2 (ix2 r ⟨k.val * 1024 + l.val, by omega⟩))) := by
  unfold tot1
  rw [rows1_eq]
  refine sum_of_steps trips1 (fun n => (sums1 (F := Ideal) x0 x1 x2 zero3 n).2.1) (fun k => ∑ r : Fin 512, ∑ l : Fin 1024,
    posTerm (fun q => x0 (ix2 r q)) (fun q => x1 (ix2 ⟨k.val * 1024 + l.val, col1 k l⟩ q))
      (on (x2 (ix2 r ⟨k.val * 1024 + l.val, col1 k l⟩)))) zero_bits fun k => ?_
  rw [sums1_succ]
  unfold step1
  dsimp only
  rw [pos_step]
  refine congrArg (_ + ·) (Finset.sum_congr rfl fun r _ => Finset.sum_congr rfl fun l _ => ?_)
  have hk := col1 k l
  rw [mask1_apply _ _ _ _ hk]
  simp only [cols1_apply _ _ _ _ hk]

theorem tot1_cnt : (tot1 (F := Ideal) x0 x1 x2).2.2 = ∑ k : Fin 8, ∑ r : Fin 512, ∑ l : Fin 1024,
    cntTerm (on (x2 (ix2 r ⟨k.val * 1024 + l.val, by omega⟩))) := by
  unfold tot1
  rw [rows1_eq]
  refine sum_of_steps trips1 (fun n => (sums1 (F := Ideal) x0 x1 x2 zero3 n).2.2) (fun k => ∑ r : Fin 512, ∑ l : Fin 1024,
    cntTerm (on (x2 (ix2 r ⟨k.val * 1024 + l.val, col1 k l⟩)))) zero_bits fun k => ?_
  rw [sums1_succ]
  unfold step1
  dsimp only
  rw [cnt_step]
  refine congrArg (_ + ·) (Finset.sum_congr rfl fun r _ => Finset.sum_congr rfl fun l _ => ?_)
  have hk := col1 k l
  rw [mask1_apply _ _ _ _ hk]

theorem tot2_val (x : Vec Ideal S1 .f32) (n : ℝ) (hn : 0 ≤ n) (hx : neg2 x = (n : EReal)) :
    tot2 (F := Ideal) x x0 x1 x2 = ∑ k : Fin 8, ∑ r : Fin 512, ∑ l : Fin 1024,
      valTerm n (fun q => x0 (ix2 r q)) (fun q => x1 (ix2 ⟨k.val * 1024 + l.val, by omega⟩ q)) (on (x2 (ix2 r ⟨k.val * 1024 + l.val, by omega⟩))) := by
  unfold tot2
  rw [rows2_eq, hx]
  refine sum_of_steps trips2 (fun m => sum2 (F := Ideal) (n : EReal) x0 x1 x2 (Scalar.ofBits .f32 0x00000000#32) m) (fun k => ∑ r : Fin 512, ∑ l : Fin 1024,
    valTerm n (fun q => x0 (ix2 r q)) (fun q => x1 (ix2 ⟨k.val * 1024 + l.val, col2 k l⟩ q))
      (on (x2 (ix2 r ⟨k.val * 1024 + l.val, col2 k l⟩)))) zero_bits fun k => ?_
  rw [sum2_succ]
  rw [val_step n hn]
  refine congrArg (_ + ·) (Finset.sum_congr rfl fun r _ => Finset.sum_congr rfl fun l _ => ?_)
  have hk := col2 k l
  rw [mask2_apply _ _ _ _ hk]
  simp only [cols2_apply _ _ _ _ hk]

end Cert.KernelIdeal.Block

end
-- ==== Proof.Value.Projections.lean ====
/-
  What the projection's region leaves in its three arrays: the projections of both inputs side by side, and the codes of
  each.
-/
module

public import proofs.«01_k».proof.Proof.Value.Blocks

@[expose] public section

set_option maxRecDepth 16384

noncomputable section

namespace Cert.KernelIdeal.Arrays

open Cert.KernelIdeal Cert.KernelIdeal.Gen Cert.KernelIdeal.Run
open Idealize.ShloMosaic Idealize.ShloMosaic.TcCoe Idealize.SL.Sem
open Idealize.ShloMosaic.Pipeline (Dat)

/-! ## A block, at an index -/

section Block

variable (x0 x1 : Vec Ideal S1024x256 .f32) (x2 : Vec Ideal S256x256 .f32) (x3 : Vec Ideal S1x256 .f32)
  (x4 : Vec Ideal S128x256 .f32) (x5 : Vec Ideal S1x128 .f32)

/-- The projection of a block's row. -/
def rowOf (x : Vec Ideal S1024x256 .f32) (r : Fin 1024) : Fin 128 → EReal :=
  Spec.proj (fun d => x (ix2 r d)) (fun k d => x2 (ix2 k d)) (fun k => x3 (ix2 0 k)) (fun q k => x4 (ix2 q k)) (fun q => x5 (ix2 0 q))

theorem projA_apply (r : Fin 1024) (o : Fin 128) : projA (F := Ideal) x0 x2 x3 x4 x5 (ix2 r o) = rowOf x2 x3 x4 x5 x0 r o := by
  unfold projA
  rw [Block.pay5, View.ld_unit_lit' _ _ (by decide), View.ld_unit_lit' _ _ (by decide), View.ld_unit_lit' _ _ (by decide),
    View.ld_unit_lit' _ _ (by decide), View.ld_unit_lit' _ _ (by decide)]
  rfl
theorem projB_apply (r : Fin 1024) (o : Fin 128) : projB (F := Ideal) x1 x2 x3 x4 x5 (ix2 r o) = rowOf x2 x3 x4 x5 x1 r o := by
  unfold projB
  rw [Block.pay6, View.ld_unit_lit' _ _ (by decide), View.ld_unit_lit' _ _ (by decide), View.ld_unit_lit' _ _ (by decide),
    View.ld_unit_lit' _ _ (by decide), View.ld_unit_lit' _ _ (by decide)]
  rfl

theorem out7_apply (r : Fin 1024) (o : Fin 128) : out0_7 (F := Ideal) x0 x2 x3 x4 x5 (ix2 r o) = Spec.code (rowOf x2 x3 x4 x5 x0 r) o := by
  unfold out0_7
  refine (congrFun (View.canon_cons_unit_lit' _ _ _ (by decide)) (ix2 r o)).trans ?_
  rw [Block.pay1]
  simp only [projA_apply]
theorem out8_apply (r : Fin 1024) (o : Fin 128) : out0_8 (F := Ideal) x1 x2 x3 x4 x5 (ix2 r o) = Spec.code (rowOf x2 x3 x4 x5 x1 r) o := by
  unfold out0_8
  refine (congrFun (View.canon_cons_unit_lit' _ _ _ (by decide)) (ix2 r o)).trans ?_
  rw [Block.pay2]
  simp only [projB_apply]

/-- The two halves of the projections' block. -/
theorem out6_left (r : Fin 1024) (o : Fin 128) (h : o.val < 256) :
    out0_6 (F := Ideal) x0 x1 x2 x3 x4 x5 (ix2 r ⟨o.val, h⟩) = rowOf x2 x3 x4 x5 x0 r o := by
  unfold out0_6
  rw [← projA_apply, View.canon_cons_of_not_mem]
  · rw [show ix2 r (⟨o.val, h⟩ : Fin 256) = rLeft.emb (ix2 r o) from ?_, View.canon_cons_emb]
    funext a
    match a with
    | ⟨0, _⟩ => exact Fin.ext (by simp [Rect.emb_apply])
    | ⟨1, _⟩ => exact Fin.ext (by simp [Rect.emb_apply])
  · rw [Rect.mem_set_unit]
    intro hm
    have h1 : 128 ≤ o.val := (hm 1).1
    omega
theorem out6_right (r : Fin 1024) (o : Fin 128) (h : 128 + o.val < 256) :
    out0_6 (F := Ideal) x0 x1 x2 x3 x4 x5 (ix2 r ⟨128 + o.val, h⟩) = rowOf x2 x3 x4 x5 x1 r o := by
  unfold out0_6
  rw [← projB_apply, show ix2 r (⟨128 + o.val, h⟩ : Fin 256) = rRight.emb (ix2 r o) from ?_, View.canon_cons_emb]
  funext a
  match a with
  | ⟨0, _⟩ => exact Fin.ext (by simp [Rect.emb_apply])
  | ⟨1, _⟩ => exact Fin.ext (by simp [Rect.emb_apply])

end Block

/-! ## The arrays -/

theorem idx0 : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![t.val, 0]
    ∧ win0_7.index t = ![t.val, 0] ∧ win0_8.index t = ![t.val, 0] ∧ t.val < 8 :=
  (by decide +kernel : ∀ t : Fin grid0.N, _)

variable (V : (c : Dev nD) → (b : Ref sig .tc) → Buf (Elt Ideal) ((c : Thread nD τ).loc b)) (c : Dev nD)

/-- The projection of row `r` of an input array. -/
def rowAt (x : Vec Ideal S8192x256 .f32) (r : Fin 8192) : Fin 128 → EReal :=
  Spec.proj (fun d => x (ix2 r d)) (fun k d => (show Vec Ideal S256x256 .f32 from V c main_arg3) (ix2 k d))
    (fun k => (show Vec Ideal S1x256 .f32 from V c main_v0) (ix2 0 k))
    (fun q k => (show Vec Ideal S128x256 .f32 from V c main_arg5) (ix2 q k)) (fun q => (show Vec Ideal S1x128 .f32 from V c main_v1) (ix2 0 q))

/-- The blocks of the weights are their arrays; a block of rows is those rows of the array. -/
theorem weights (t : Fin cfg0.N) : iblk0 V c 2 t = V c main_arg3 ∧ iblk0 V c 3 t = V c main_v0 ∧ iblk0 V c 4 t = V c main_arg5 ∧ iblk0 V c 5 t = V c main_v1 := by
  refine ⟨?_, ?_, ?_, ?_⟩
  · blk_ext! [iblk0, idx0 t]
  · blk_ext! [iblk0, idx0 t]
  · blk_ext! [iblk0, idx0 t]
  · blk_ext! [iblk0, idx0 t]
theorem block0 (t : Fin cfg0.N) (r : Fin 1024) (d : Fin 256) (h : t.val * 1024 + r.val < 8192) :
    (show Vec Ideal S1024x256 .f32 from iblk0 V c 0 t) (ix2 r d) = (show Vec Ideal S8192x256 .f32 from V c main_arg0) (ix2 ⟨t.val * 1024 + r.val, h⟩ d) := by
  blk_ext [iblk0, idx0 t]
theorem block1 (t : Fin cfg0.N) (r : Fin 1024) (d : Fin 256) (h : t.val * 1024 + r.val < 8192) :
    (show Vec Ideal S1024x256 .f32 from iblk0 V c 1 t) (ix2 r d) = (show Vec Ideal S8192x256 .f32 from V c main_arg1) (ix2 ⟨t.val * 1024 + r.val, h⟩ d) := by
  blk_ext [iblk0, idx0 t]

/-- A block's projected row is the array's. -/
theorem row0 (t : Fin cfg0.N) (r : Fin 1024) (h : t.val * 1024 + r.val < 8192) :
    rowOf (V c main_arg3) (V c main_v0) (V c main_arg5) (V c main_v1) (iblk0 V c 0 t) r = rowAt V c (V c main_arg0) ⟨t.val * 1024 + r.val, h⟩ := by
  unfold rowOf rowAt
  exact congrArg (fun x => Spec.proj x _ _ _ _) (funext fun d => block0 V c t r d h)
/-- A block's projected row is the array's. -/
theorem row1 (t : Fin cfg0.N) (r : Fin 1024) (h : t.val * 1024 + r.val < 8192) :
    rowOf (V c main_arg3) (V c main_v0) (V c main_arg5) (V c main_v1) (iblk0 V c 1 t) r = rowAt V c (V c main_arg1) ⟨t.val * 1024 + r.val, h⟩ := by
  unfold rowOf rowAt
  exact congrArg (fun x => Spec.proj x _ _ _ _) (funext fun d => block1 V c t r d h)

theorem final7 : (dat0 V c).arrAt 7 cfg0.N = fun i : S8192x128.Idx => Spec.code (rowAt V c (V c main_arg0) (i 0)) (i 1) := by
  refine (dat0 V c).arrAt_eq_of_covers 7 _ (by decide +kernel) fun t _ y => ?_
  blk_simp
  rw [after0_7]
  obtain ⟨r, o, rfl⟩ : ∃ (r : Fin 1024) (o : Fin 128), y = ix2 r o := ⟨y 0, y 1, eq_ix2 y⟩
  have h : t.val * 1024 + r.val < 8192 := by
    have := idx0 t
    omega
  rw [show (win0_7.blk t).view.emb (ix2 r o) = ix2 ⟨t.val * 1024 + r.val, h⟩ o by blk_ext [idx0 t]]
  obtain ⟨e2, e3, e4, e5⟩ := weights V c t
  rw [e2, e3, e4, e5]
  refine (out7_apply _ _ _ _ _ r o).trans ?_
  rw [row0 V c t r h]
  rfl

theorem final8 : (dat0 V c).arrAt 8 cfg0.N = fun i : S8192x128.Idx => Spec.code (rowAt V c (V c main_arg1) (i 0)) (i 1) := by
  refine (dat0 V c).arrAt_eq_of_covers 8 _ (by decide +kernel) fun t _ y => ?_
  blk_simp
  rw [after0_8]
  obtain ⟨r, o, rfl⟩ : ∃ (r : Fin 1024) (o : Fin 128), y = ix2 r o := ⟨y 0, y 1, eq_ix2 y⟩
  have h : t.val * 1024 + r.val < 8192 := by
    have := idx0 t
    omega
  rw [show (win0_8.blk t).view.emb (ix2 r o) = ix2 ⟨t.val * 1024 + r.val, h⟩ o by blk_ext [idx0 t]]
  obtain ⟨e2, e3, e4, e5⟩ := weights V c t
  rw [e2, e3, e4, e5]
  refine (out8_apply _ _ _ _ _ r o).trans ?_
  rw [row1 V c t r h]
  rfl

/-- The projections side by side. -/
def sides (i : S8192x256.Idx) : EReal :=
  if h : (i 1).val < 128 then rowAt V c (V c main_arg0) (i 0) ⟨(i 1).val, h⟩
  else rowAt V c (V c main_arg1) (i 0) ⟨(i 1).val - 128, Nat.sub_lt_left_of_lt_add (Nat.le_of_not_lt h) (i 1).isLt⟩

theorem final6 : (dat0 V c).arrAt 6 cfg0.N = sides V c := by
  refine (dat0 V c).arrAt_eq_of_covers 6 _ (by decide +kernel) fun t _ y => ?_
  blk_simp
  rw [after0_6]
  obtain ⟨r, o, rfl⟩ : ∃ (r : Fin 1024) (o : Fin 256), y = ix2 r o := ⟨y 0, y 1, eq_ix2 y⟩
  have h : t.val * 1024 + r.val < 8192 := by
    have := idx0 t
    omega
  rw [show (win0_6.blk t).view.emb (ix2 r o) = ix2 ⟨t.val * 1024 + r.val, h⟩ o by blk_ext [idx0 t]]
  obtain ⟨e2, e3, e4, e5⟩ := weights V c t
  rw [e2, e3, e4, e5]
  unfold sides
  by_cases ho : o.val < 128
  · refine Eq.trans ?_ (dif_pos ho).symm
    refine (out6_left _ _ _ _ _ _ r ⟨o.val, ho⟩ o.isLt).trans ?_
    rw [row0 V c t r h]
    rfl
  · refine Eq.trans ?_ (dif_neg ho).symm
    have hs : o.val - 128 < 128 := by omega
    have hb : 128 + (⟨o.val - 128, hs⟩ : Fin 128).val < 256 := by dsimp only; omega
    have e : o = ⟨128 + (⟨o.val - 128, hs⟩ : Fin 128).val, hb⟩ := Fin.ext (by dsimp only; omega)
    refine (congrArg (fun q => out0_6 (F := Ideal) (iblk0 V c 0 t) (iblk0 V c 1 t) (V c main_arg3) (V c main_v0) (V c main_arg5) (V c main_v1) (ix2 r q)) e).trans ?_
    refine (out6_right _ _ _ _ _ _ r ⟨o.val - 128, hs⟩ hb).trans ?_
    rw [row1 V c t r h]
    rfl

end Cert.KernelIdeal.Arrays

end
-- ==== Proof.Value.Sums.lean ====
/-
  What the main region and the exact arm's region leave: per row block, the sums over the block's pairs.
-/
module

public import proofs.«01_k».proof.Proof.Value.Blocks

@[expose] public section

set_option maxRecDepth 16384

noncomputable section

namespace Cert.KernelIdeal.Arrays

open Cert.KernelIdeal Cert.KernelIdeal.Gen Cert.KernelIdeal.Run Cert.KernelIdeal.Block
open Idealize.ShloMosaic Idealize.ShloMosaic.TcCoe Idealize.SL.Sem
open Idealize.ShloMosaic.Pipeline (Dat)

theorem one111_apply (x : Ideal .f32) (y : S1x1x1.Idx) : one111 (F := Ideal) x y = x :=
  congrFun (View.canon_cons_unit_lit' _ _ _ (by decide)) y

theorem idx1 : ∀ t : Fin cfg1.N, win1_0.index t = ![t.val, 0] ∧ win1_1.index t = ![0, 0] ∧ win1_2.index t = ![t.val, 0]
    ∧ win1_3.index t = ![t.val, 0, 0] ∧ win1_4.index t = ![t.val, 0, 0] ∧ win1_5.index t = ![t.val, 0, 0] ∧ t.val < 16 :=
  (by decide +kernel : ∀ t : Fin grid1.N, _)
theorem idx2 : ∀ t : Fin cfg2.N, win2_0.index t = ![0] ∧ win2_1.index t = ![t.val, 0] ∧ win2_2.index t = ![0, 0]
    ∧ win2_3.index t = ![t.val, 0] ∧ win2_4.index t = ![t.val, 0, 0] ∧ t.val < 16 :=
  (by decide +kernel : ∀ t : Fin grid2.N, _)

/-- The sum of `f` over the pairs of row block `t`. -/
def blockSum (f : Fin 8192 → Fin 8192 → EReal) (t : Fin 16) : EReal :=
  ∑ k : Fin 8, ∑ r : Fin 512, ∑ l : Fin 1024, f ⟨t.val * 512 + r.val, by omega⟩ ⟨k.val * 1024 + l.val, by omega⟩

variable (V : (c : Dev nD) → (b : Ref sig .tc) → Buf (Elt Ideal) ((c : Thread nD τ).loc b)) (c : Dev nD)

/-- Both sets of codes, as rows. -/
def codesA (i : Fin 8192) (q : Fin 128) : BitVec 8 := (show Vec Ideal S8192x128 .i8 from V c main_v2_1) (ix2 i q)
def codesB (i : Fin 8192) (q : Fin 128) : BitVec 8 := (show Vec Ideal S8192x128 .i8 from V c main_v2_2) (ix2 i q)
/-- The mask that the main region reads, and the one that the exact arm's reads. -/
def maskOf1 (i j : Fin 8192) : BitVec 1 := on ((show Vec Ideal S8192x8192 .i32 from V c main_v3) (ix2 i j))
def maskOf2 (i j : Fin 8192) : BitVec 1 := on ((show Vec Ideal S8192x8192 .i32 from V c main_case0b0_v16) (ix2 i j))

theorem rows1_read (t : Fin cfg1.N) (r : Fin 512) (q : Fin 128) (h : t.val * 512 + r.val < 8192) :
    (show Vec Ideal S512x128 .i8 from iblk1 V c 0 t) (ix2 r q) = codesA V c ⟨t.val * 512 + r.val, h⟩ q := by
  unfold codesA
  blk_ext [iblk1, idx1 t]
theorem all1_read (t : Fin cfg1.N) : iblk1 V c 1 t = V c main_v2_2 := by blk_ext! [iblk1, idx1 t]
theorem mask1_read (t : Fin cfg1.N) (r : Fin 512) (j : Fin 8192) (h : t.val * 512 + r.val < 8192) :
    on ((show Vec Ideal S512x8192 .i32 from iblk1 V c 2 t) (ix2 r j)) = maskOf1 V c ⟨t.val * 512 + r.val, h⟩ j := by
  unfold maskOf1
  refine congrArg on ?_
  blk_ext [iblk1, idx1 t]
theorem rows2_read (t : Fin cfg2.N) (r : Fin 512) (q : Fin 128) (h : t.val * 512 + r.val < 8192) :
    (show Vec Ideal S512x128 .i8 from iblk2 V c 1 t) (ix2 r q) = codesA V c ⟨t.val * 512 + r.val, h⟩ q := by
  unfold codesA
  blk_ext [iblk2, idx2 t]
theorem all2_read (t : Fin cfg2.N) : iblk2 V c 2 t = V c main_v2_2 := by blk_ext! [iblk2, idx2 t]
theorem mask2_read (t : Fin cfg2.N) (r : Fin 512) (j : Fin 8192) (h : t.val * 512 + r.val < 8192) :
    on ((show Vec Ideal S512x8192 .i32 from iblk2 V c 3 t) (ix2 r j)) = maskOf2 V c ⟨t.val * 512 + r.val, h⟩ j := by
  unfold maskOf2
  refine congrArg on ?_
  blk_ext [iblk2, idx2 t]
theorem word2_read (t : Fin cfg2.N) : iblk2 V c 0 t = V c main_case0b0_v15 := by blk_ext! [iblk2, idx2 t]

/-- The exponentials of the pairs that are not positive. -/
theorem final1_3 : (dat1 V c).arrAt 3 cfg1.N = fun i : S16x1x1.Idx => blockSum (fun i j => negTerm (codesA V c i) (codesB V c j) (maskOf1 V c i j)) (i 0) := by
  refine (dat1 V c).arrAt_eq_of_covers 3 _ (by decide +kernel) fun t _ y => ?_
  blk_simp
  rw [after1_3]
  refine (one111_apply _ _).trans ?_
  obtain ⟨a, b, d, rfl⟩ : ∃ (a b d : Fin 1), y = ix3 a b d := ⟨y 0, y 1, y 2, eq_ix3 y⟩
  have ht : t.val < 16 := by
    have := idx1 t
    omega
  rw [show (win1_3.blk t).view.emb (ix3 a b d) = ix3 ⟨t.val, ht⟩ 0 0 by blk_ext [idx1 t]]
  refine (tot1_neg _ _ _).trans ?_
  unfold blockSum
  refine Finset.sum_congr rfl fun k _ => Finset.sum_congr rfl fun r _ => Finset.sum_congr rfl fun l _ => ?_
  have h : t.val * 512 + r.val < 8192 := by omega
  rw [all1_read, mask1_read V c t r _ h, funext fun q => rows1_read V c t r q h]
  rfl

/-- The positives' similarities, over log 2. -/
theorem final1_4 : (dat1 V c).arrAt 4 cfg1.N = fun i : S16x1x1.Idx => blockSum (fun i j => posTerm (codesA V c i) (codesB V c j) (maskOf1 V c i j)) (i 0) := by
  refine (dat1 V c).arrAt_eq_of_covers 4 _ (by decide +kernel) fun t _ y => ?_
  blk_simp
  rw [after1_4]
  refine (one111_apply _ _).trans ?_
  obtain ⟨a, b, d, rfl⟩ : ∃ (a b d : Fin 1), y = ix3 a b d := ⟨y 0, y 1, y 2, eq_ix3 y⟩
  have ht : t.val < 16 := by
    have := idx1 t
    omega
  rw [show (win1_4.blk t).view.emb (ix3 a b d) = ix3 ⟨t.val, ht⟩ 0 0 by blk_ext [idx1 t]]
  refine (tot1_pos _ _ _).trans ?_
  unfold blockSum
  refine Finset.sum_congr rfl fun k _ => Finset.sum_congr rfl fun r _ => Finset.sum_congr rfl fun l _ => ?_
  have h : t.val * 512 + r.val < 8192 := by omega
  rw [all1_read, mask1_read V c t r _ h, funext fun q => rows1_read V c t r q h]
  rfl

/-- How many pairs are positive. -/
theorem final1_5 : (dat1 V c).arrAt 5 cfg1.N = fun i : S16x1x1.Idx => blockSum (fun i j => cntTerm (maskOf1 V c i j)) (i 0) := by
  refine (dat1 V c).arrAt_eq_of_covers 5 _ (by decide +kernel) fun t _ y => ?_
  blk_simp
  rw [after1_5]
  refine (one111_apply _ _).trans ?_
  obtain ⟨a, b, d, rfl⟩ : ∃ (a b d : Fin 1), y = ix3 a b d := ⟨y 0, y 1, y 2, eq_ix3 y⟩
  have ht : t.val < 16 := by
    have := idx1 t
    omega
  rw [show (win1_5.blk t).view.emb (ix3 a b d) = ix3 ⟨t.val, ht⟩ 0 0 by blk_ext [idx1 t]]
  refine (tot1_cnt _ _ _).trans ?_
  unfold blockSum
  refine Finset.sum_congr rfl fun k _ => Finset.sum_congr rfl fun r _ => Finset.sum_congr rfl fun l _ => ?_
  have h : t.val * 512 + r.val < 8192 := by omega
  rw [mask1_read V c t r _ h]
  rfl

/-- The exact arm's sums: the positives' losses over the negative sum `n`. -/
theorem final2_4 (n : ℝ) (hn : 0 ≤ n) (hw : (show Vec Ideal S1 .f32 from V c main_case0b0_v15) = fun _ => (n : EReal)) :
    (dat2 V c).arrAt 4 cfg2.N
      = fun i : S16x1x1.Idx => blockSum (fun i j => valTerm n (codesA V c i) (codesB V c j) (maskOf2 V c i j)) (i 0) := by
  refine (dat2 V c).arrAt_eq_of_covers 4 _ (by decide +kernel) fun t _ y => ?_
  blk_simp
  rw [after2_4]
  refine (one111_apply _ _).trans ?_
  obtain ⟨a, b, d, rfl⟩ : ∃ (a b d : Fin 1), y = ix3 a b d := ⟨y 0, y 1, y 2, eq_ix3 y⟩
  have ht : t.val < 16 := by
    have := idx2 t
    omega
  rw [show (win2_4.blk t).view.emb (ix3 a b d) = ix3 ⟨t.val, ht⟩ 0 0 by blk_ext [idx2 t]]
  refine (tot2_val _ _ _ _ n hn ?_).trans ?_
  · rw [word2_read]
    exact (congrArg (neg2 (F := Ideal)) hw).trans rfl
  unfold blockSum
  refine Finset.sum_congr rfl fun k _ => Finset.sum_congr rfl fun r _ => Finset.sum_congr rfl fun l _ => ?_
  have h : t.val * 512 + r.val < 8192 := by omega
  rw [all2_read, mask2_read V c t r _ h, funext fun q => rows2_read V c t r q h]
  rfl

end Cert.KernelIdeal.Arrays

end
-- ==== Proof.Value.Inputs.lean ====
/-
  The arguments' arrays as the mathematics takes them: a row's projection, the codes of all rows, the mask.
-/
module

public import proofs.«01_k».proof.Proof.Value.Spec

@[expose] public section

set_option maxRecDepth 16384

noncomputable section

namespace Cert.Spec

open Idealize.ShloMosaic

variable (w1 : FVec Ideal ⟨2, ![256, 256]⟩ .f32) (b1 : FVec Ideal ⟨1, ![256]⟩ .f32)
  (w2 : FVec Ideal ⟨2, ![128, 256]⟩ .f32) (b2 : FVec Ideal ⟨1, ![128]⟩ .f32) (x : FVec Ideal ⟨2, ![8192, 256]⟩ .f32)

/-- The projection of row `i`, -/
def row (i : Fin 8192) : Fin 128 → EReal :=
  proj (fun d => x (ix2 i d)) (fun k d => w1 (ix2 k d)) (fun k => b1 (ix1 k)) (fun q k => w2 (ix2 q k)) (fun q => b2 (ix1 q))
/-- the codes of all rows, -/
def codes : Codes := fun i => code (row w1 b1 w2 b2 x i)
/-- and the mask. -/
def mask (y : IVec ⟨2, ![8192, 8192]⟩ 1) : Mask := fun i j => y (ix2 i j)

/-- The projections of two arrays of rows, side by side. -/
def sides (x y : FVec Ideal ⟨2, ![8192, 256]⟩ .f32) (i : (⟨2, ![8192, 256]⟩ : Shape).Idx) : EReal :=
  if h : (i 1).val < 128 then row w1 b1 w2 b2 x (i 0) ⟨(i 1).val, h⟩
  else row w1 b1 w2 b2 y (i 0) ⟨(i 1).val - 128, Nat.sub_lt_left_of_lt_add (Nat.le_of_not_lt h) (i 1).isLt⟩

end Cert.Spec

end
-- ==== Proof.Value.Host.lean ====
/-
  From the regions' arrays to @main's results: the operations between the regions, the branch's condition, and the two arms.
-/
module

public import proofs.«01_k».proof.Proof.Value.Projections
public import proofs.«01_k».proof.Proof.Value.Sums
public import proofs.«01_k».proof.Proof.Value.Inputs

@[expose] public section

set_option maxRecDepth 16384

noncomputable section

namespace Cert.KernelIdeal.Host

open Cert.KernelIdeal Cert.KernelIdeal.Gen Cert.KernelIdeal.Run Cert.KernelIdeal.Block Cert.KernelIdeal.Arrays
open Idealize.ShloMosaic Idealize.ShloMosaic.TcCoe Idealize.SL.Sem
open Idealize.ShloMosaic.StableHlo (after)

/-! ## Sums over the row blocks -/

theorem reduce (x : FVec Ideal S16x1x1 .f32) :
    Host.reduceAdd x (constant S_ .f32 0x00000000#32) reducesTo_S16x1x1_S_d0_1_2 h_S_ = fun _ => ∑ t : Fin 16, x (ix3 t 0 0) := by
  funext i
  pointwise []
  simp

/-- The reduction's sum, put through what follows it. -/
theorem reduce_log (x : FVec Ideal S16x1x1 .f32) (r : ℝ) (h : ∑ t : Fin 16, x (ix3 t 0 0) = (r : EReal)) :
    mulf (Host.reduceAdd x (constant S_ .f32 0x00000000#32) reducesTo_S16x1x1_S_d0_1_2 h_S_)
      (Host.log (constant S_ .f32 0x40000000#32)) = fun _ => ((r * Real.log 2 : ℝ) : EReal) := by
  rw [reduce, h]
  funext i
  pointwise []
  rw [Spec.bits_two, Spec.log_real two_pos, ← EReal.coe_mul]
theorem reduce_max (x : FVec Ideal S16x1x1 .f32) (r : ℝ) (h : ∑ t : Fin 16, x (ix3 t 0 0) = (r : EReal)) :
    maximumf (Host.reduceAdd x (constant S_ .f32 0x00000000#32) reducesTo_S16x1x1_S_d0_1_2 h_S_) (constant S_ .f32 0x3F800000#32)
      = fun _ => ((max r 1 : ℝ) : EReal) := by
  rw [reduce, h]
  funext i
  pointwise []
  rw [← EReal.coe_one, Spec.max_real]
theorem reduce_oge (x : FVec Ideal S16x1x1 .f32) (r : ℝ) (h : ∑ t : Fin 16, x (ix3 t 0 0) = (r : EReal)) :
    cmpf .oge (Host.reduceAdd x (constant S_ .f32 0x00000000#32) reducesTo_S16x1x1_S_d0_1_2 h_S_) (constant S_ .f32 0x49742400#32)
      = fun _ => if 1000000 ≤ r then 1#1 else 0#1 := by
  rw [reduce, h]
  funext i
  change BitVec.ofBool (decide (Ideal.ofBits .f32 0x49742400#32 ≤ (r : EReal))) = _
  rw [Spec.bits_million]
  simp only [EReal.coe_le_coe_iff]
  split_ifs with h <;> simp [h]
theorem reduce_div (x : FVec Ideal S16x1x1 .f32) (r d : ℝ) (h : ∑ t : Fin 16, x (ix3 t 0 0) = (r : EReal)) (hd : d ≠ 0) :
    Host.divf (Host.reduceAdd x (constant S_ .f32 0x00000000#32) reducesTo_S16x1x1_S_d0_1_2 h_S_) (fun _ => (d : EReal))
      = fun _ => ((r / d : ℝ) : EReal) := by
  rw [reduce, h]
  funext i
  change Ideal.div (r : EReal) (d : EReal) = _
  rw [Spec.div_real _ hd]

theorem blocks (f : Fin 8192 → Fin 8192 → ℝ) :
    ∑ t : Fin 16, blockSum (fun i j => ((f i j : ℝ) : EReal)) t = ((∑ i, ∑ j, f i j : ℝ) : EReal) :=
  (Spec.sum_blocks fun i j => ((f i j : ℝ) : EReal)).trans (Spec.coe_sum_sum f)

/-- The positives' sum comes back from the logarithm's base. -/
theorem pos_real (A B : Spec.Codes) (M : Spec.Mask) :
    (∑ i, ∑ j, (if M i j = 1#1 then Spec.sim (A i) (B j) else 0) * (Real.log 2)⁻¹) * Real.log 2 = Spec.pos A B M := by
  have h : Real.log 2 ≠ 0 := (Real.log_pos one_lt_two).ne'
  simp only [← Finset.sum_mul]
  rw [mul_assoc, inv_mul_cancel₀ h, mul_one]
  rfl

theorem blocks_neg (A B : Spec.Codes) (M : Spec.Mask) :
    ∑ t : Fin 16, blockSum (fun i j => negTerm (A i) (B j) (M i j)) t = ((Spec.neg A B M : ℝ) : EReal) :=
  blocks fun i j => if M i j = 1#1 then 0 else Spec.expSim (A i) (B j)
theorem blocks_pos (A B : Spec.Codes) (M : Spec.Mask) :
    ∑ t : Fin 16, blockSum (fun i j => posTerm (A i) (B j) (M i j)) t
      = ((∑ i, ∑ j, (if M i j = 1#1 then Spec.sim (A i) (B j) else 0) * (Real.log 2)⁻¹ : ℝ) : EReal) :=
  blocks fun i j => (if M i j = 1#1 then Spec.sim (A i) (B j) else 0) * (Real.log 2)⁻¹
theorem blocks_cnt (M : Spec.Mask) : ∑ t : Fin 16, blockSum (fun i j => cntTerm (M i j)) t = ((Spec.cnt M : ℝ) : EReal) :=
  blocks fun i j => if M i j = 1#1 then 1 else 0
theorem blocks_val (n : ℝ) (A B : Spec.Codes) (M : Spec.Mask) :
    ∑ t : Fin 16, blockSum (fun i j => valTerm n (A i) (B j) (M i j)) t
      = ((Spec.val A B M fun i j => Spec.expSim (A i) (B j) + n : ℝ) : EReal) :=
  blocks fun i j => if M i j = 1#1 then -Real.log (Spec.expSim (A i) (B j) / (Spec.expSim (A i) (B j) + n)) else 0

/-! ## The operations after the main region -/

section Third

variable (V : Valuation τ sig (Elt Ideal)) (A B : Spec.Codes) (M : Spec.Mask)
  (h0 : V main_v4_0 = fun i : S16x1x1.Idx => blockSum (fun i j => negTerm (A i) (B j) (M i j)) (i 0))
  (h1 : V main_v4_1 = fun i : S16x1x1.Idx => blockSum (fun i j => posTerm (A i) (B j) (M i j)) (i 0))
  (h2 : V main_v4_2 = fun i : S16x1x1.Idx => blockSum (fun i j => cntTerm (M i j)) (i 0))

include h0 in
theorem v5 : after hostOps2 V main_v5 = (fun _ => (Spec.neg A B M : EReal) : Vec Ideal S_ .f32) := by
  after_results
  rw [h0]
  refine (reduce _).trans ?_
  funext i
  exact blocks_neg A B M

include h1 in
theorem v8 : after hostOps2 V main_v8 = (fun _ => (Spec.pos A B M : EReal) : Vec Ideal S_ .f32) := by
  after_results
  rw [h1]
  have e := reduce_log (fun i : S16x1x1.Idx => blockSum (fun i j => posTerm (A i) (B j) (M i j)) (i 0)) _ (blocks_pos A B M)
  rw [pos_real] at e
  exact e

include h2 in
theorem v9 : after hostOps2 V main_v9 = (fun _ => (Spec.cnt M : EReal) : Vec Ideal S_ .f32) := by
  after_results
  rw [h2]
  refine (reduce _).trans ?_
  funext i
  exact blocks_cnt M

include h2 in
theorem v10 : after hostOps2 V main_v10 = (fun _ => ((max (Spec.cnt M) 1 : ℝ) : EReal) : Vec Ideal S_ .f32) := by
  after_results
  rw [h2]
  exact reduce_max _ _ (blocks_cnt M)

include h0 in
theorem v11 : after hostOps2 V main_v11
    = (fun _ => if 1000000 ≤ Spec.neg A B M then 1#1 else 0#1 : Vec Ideal S_ .i1) := by
  after_results
  rw [h0]
  exact reduce_oge _ _ (blocks_neg A B M)

end Third

/-! ## The arms -/

section Arms

variable (V : Valuation τ sig (Elt Ideal)) (A B : Spec.Codes) (M : Spec.Mask)

theorem fast (hM : 1000000 ≤ Spec.neg A B M)
    (h5 : V main_v5 = (fun _ => (Spec.neg A B M : EReal) : Vec Ideal S_ .f32))
    (h8 : V main_v8 = (fun _ => (Spec.pos A B M : EReal) : Vec Ideal S_ .f32))
    (h9 : V main_v9 = (fun _ => (Spec.cnt M : EReal) : Vec Ideal S_ .f32))
    (h10 : V main_v10 = (fun _ => ((max (Spec.cnt M) 1 : ℝ) : EReal) : Vec Ideal S_ .f32)) :
    after fastOps V main_v13 = (fun _ => (Spec.loss A B M : EReal) : Vec Ideal S_ .f32) := by
  after_results
  rw [h5, h8, h9, h10]
  funext i
  change Ideal.div (((Spec.cnt M : ℝ) : EReal) * Ideal.log ((Spec.neg A B M : ℝ) : EReal) - ((Spec.pos A B M : ℝ) : EReal))
    ((max (Spec.cnt M) 1 : ℝ) : EReal) = _
  rw [Spec.log_real (by linarith), ← EReal.coe_mul, ← EReal.coe_sub, Spec.div_real _ (Spec.cnt_max_pos M).ne', Spec.loss_of_le A B M hM]

theorem exact_word (h5 : V main_v5 = (fun _ => (Spec.neg A B M : EReal) : Vec Ideal S_ .f32)) :
    after exOps0 V main_case0b0_v15 = (fun _ => (Spec.neg A B M : EReal) : Vec Ideal S1 .f32) := by
  after_results
  rw [h5]
  funext i
  change max ((Spec.neg A B M : ℝ) : EReal) (Ideal.ofBits .f32 0x00000000#32) = _
  rw [Ideal.ofBits_zero_f32, max_eq_left]
  exact_mod_cast Spec.neg_nonneg A B M

theorem exact_end (hM : ¬ 1000000 ≤ Spec.neg A B M)
    (h17 : V main_case0b0_v17 = fun i : S16x1x1.Idx => blockSum (fun i j => valTerm (Spec.neg A B M) (A i) (B j) (M i j)) (i 0))
    (h10 : V main_v10 = (fun _ => ((max (Spec.cnt M) 1 : ℝ) : EReal) : Vec Ideal S_ .f32)) :
    after exOps1 V main_v13 = (fun _ => (Spec.loss A B M : EReal) : Vec Ideal S_ .f32) := by
  after_results
  rw [h17, h10]
  have e := reduce_div (fun i : S16x1x1.Idx => blockSum (fun i j => valTerm (Spec.neg A B M) (A i) (B j) (M i j)) (i 0)) _ _
    (blocks_val (Spec.neg A B M) A B M) (Spec.cnt_max_pos M).ne'
  rw [← Spec.loss_of_lt A B M hM] at e
  exact e

end Arms

end Cert.KernelIdeal.Host

end
-- ==== Proof.Value.Result.lean ====
/-
  @main's two results, as functions of its arguments.
-/
module

public import proofs.«01_k».proof.Proof.Value.Host

@[expose] public section

set_option maxRecDepth 16384

noncomputable section

namespace Cert.KernelIdeal.Host

open Cert.KernelIdeal Cert.KernelIdeal.Gen Cert.KernelIdeal.Run Cert.KernelIdeal.Block Cert.KernelIdeal.Arrays
open Idealize.ShloMosaic Idealize.ShloMosaic.TcCoe Idealize.SL.Sem
open Idealize.ShloMosaic.StableHlo (after)

variable (m : (ℓ : Loc nD τ sig) → Buf (Elt Ideal) ℓ) (c : Dev nD)

/-! ## The arguments -/

abbrev x0 : FVec Ideal S8192x256 .f32 := m ((c : Thread nD τ).loc main_arg0)
abbrev x1 : FVec Ideal S8192x256 .f32 := m ((c : Thread nD τ).loc main_arg1)
abbrev msk : IVec S8192x8192 1 := m ((c : Thread nD τ).loc main_arg2)
abbrev w1 : FVec Ideal S256x256 .f32 := m ((c : Thread nD τ).loc main_arg3)
abbrev b1 : FVec Ideal S256 .f32 := m ((c : Thread nD τ).loc main_arg4)
abbrev w2 : FVec Ideal S128x256 .f32 := m ((c : Thread nD τ).loc main_arg5)
abbrev b2 : FVec Ideal S128 .f32 := m ((c : Thread nD τ).loc main_arg6)

abbrev A : Spec.Codes := Spec.codes (w1 m c) (b1 m c) (w2 m c) (b2 m c) (x0 m c)
abbrev B : Spec.Codes := Spec.codes (w1 m c) (b1 m c) (w2 m c) (b2 m c) (x1 m c)
abbrev M : Spec.Mask := Spec.mask (msk m c)

/-! ## The projections -/

theorem bias1 (k : Fin 256) : (show Vec Ideal S1x256 .f32 from W1 m c main_v0) (ix2 0 k) = b1 m c (ix1 k) := by
  unfold W1 W0
  after_results
  change shapeCast S1x256 (b1 m c) shapeCasts_S256_S1x256 (ix2 0 k) = _
  pointwise []
theorem bias2 (q : Fin 128) : (show Vec Ideal S1x128 .f32 from W1 m c main_v1) (ix2 0 q) = b2 m c (ix1 q) := by
  unfold W1 W0
  after_results
  change shapeCast S1x128 (b2 m c) shapeCasts_S128_S1x128 (ix2 0 q) = _
  pointwise []

theorem proj_congr {x : Fin 256 → EReal} {u u' : Fin 256 → Fin 256 → EReal} {b b' : Fin 256 → EReal} {v v' : Fin 128 → Fin 256 → EReal}
    {d d' : Fin 128 → EReal} (hu : u = u') (hb : b = b') (hv : v = v') (hd : d = d') : Spec.proj x u b v d = Spec.proj x u' b' v' d' := by
  rw [hu, hb, hv, hd]
theorem rowAt_eq (x : Vec Ideal S8192x256 .f32) (r : Fin 8192) :
    rowAt (atRefs (W1 m)) c x r = Spec.row (w1 m c) (b1 m c) (w2 m c) (b2 m c) x r := by
  unfold rowAt Spec.row
  exact proj_congr (funext fun k => funext fun d => congrFun (W1_arg m c main_arg3 (.inr (.inr (.inr (.inl rfl))))) (ix2 k d))
    (funext fun k => bias1 m c k)
    (funext fun q => funext fun k => congrFun (W1_arg m c main_arg5 (.inr (.inr (.inr (.inr (.inr (.inl rfl))))))) (ix2 q k))
    (funext fun q => bias2 m c q)
theorem row0_eq : rowAt (atRefs (W1 m)) c (atRefs (W1 m) c main_arg0) = Spec.row (w1 m c) (b1 m c) (w2 m c) (b2 m c) (x0 m c) := by
  rw [show atRefs (W1 m) c main_arg0 = x0 m c from W1_arg m c main_arg0 (.inl rfl)]
  exact funext fun r => rowAt_eq m c _ r
theorem row1_eq : rowAt (atRefs (W1 m)) c (atRefs (W1 m) c main_arg1) = Spec.row (w1 m c) (b1 m c) (w2 m c) (b2 m c) (x1 m c) := by
  rw [show atRefs (W1 m) c main_arg1 = x1 m c from W1_arg m c main_arg1 (.inr (.inl rfl))]
  exact funext fun r => rowAt_eq m c _ r

theorem sides_eq : W2 m c main_v2_0 = Spec.sides (w1 m c) (b1 m c) (w2 m c) (b2 m c) (x0 m c) (x1 m c) := by
  rw [W2_v2_0, final6]
  funext i
  unfold Arrays.sides Spec.sides
  rw [row0_eq, row1_eq]

/-! ## The codes and the mask, wherever a region reads them -/

theorem v2_1 : W2 m c main_v2_1 = (fun i : S8192x128.Idx => A m c (i 0) (i 1) : Vec Ideal S8192x128 .i8) := by
  rw [W2_v2_1, final7]
  funext i
  rw [row0_eq]
  rfl
theorem v2_2 : W2 m c main_v2_2 = (fun i : S8192x128.Idx => B m c (i 0) (i 1) : Vec Ideal S8192x128 .i8) := by
  rw [W2_v2_2, final8]
  funext i
  rw [row1_eq]
  rfl

theorem W3_keeps (b : Ref sig .tc) (h : b ≠ main_v3) : W3 m c b = W2 m c b :=
  StableHlo.after_of_forall_not_mem hostOps1 _ (by
    intro op hop; fin_cases hop; exact fun e => StableHlo.devRef_ne_of_ne h (Finset.mem_singleton.mp e))

theorem codesA3 : codesA (atRefs (W3 m)) c = A m c := by
  funext i q
  exact congrFun ((W3_keeps m c main_v2_1 (by decide)).trans (v2_1 m c)) (ix2 i q)
theorem codesB3 : codesB (atRefs (W3 m)) c = B m c := by
  funext i q
  exact congrFun ((W3_keeps m c main_v2_2 (by decide)).trans (v2_2 m c)) (ix2 i q)
theorem mask3 : maskOf1 (atRefs (W3 m)) c = M m c := by
  have h2 : W2 m c main_arg2 = msk m c :=
    (W2_of_ne m c main_arg2 (by decide) (by decide) (by decide)).trans (W1_arg m c main_arg2 (.inr (.inr (.inl rfl))))
  have h3 : W3 m c main_v3 = (extui 32 (msk m c) natLt_1_32 : Vec Ideal S8192x8192 .i32) := by
    unfold W3
    after_results
    rw [h2]
  funext i j
  exact (congrArg on (congrFun h3 (ix2 i j))).trans (on_widened _)

theorem W6_keeps (b : Ref sig .tc) (h : b = main_v2_0 ∨ b = main_v2_1 ∨ b = main_v2_2) : W6 m c b = W2 m c b := by
  have h6 : W6 m c b = W5 m c b := StableHlo.after_of_forall_not_mem [rdOp] _ (by
    rcases h with rfl | rfl | rfl <;>
      (intro op hop; fin_cases hop <;> exact fun e => StableHlo.devRef_ne_of_ne (by decide) (Finset.mem_singleton.mp e)))
  have h5 : W5 m c b = W4 m c b := StableHlo.after_of_forall_not_mem hostOps2 _ (by
    rcases h with rfl | rfl | rfl <;>
      (intro op hop; fin_cases hop <;> exact fun e => StableHlo.devRef_ne_of_ne (by decide) (Finset.mem_singleton.mp e)))
  refine h6.trans (h5.trans ((W4_of_ne m c b ?_ ?_ ?_).trans (W3_keeps m c b ?_))) <;> (rcases h with rfl | rfl | rfl <;> decide)
theorem E1_keeps (b : Ref sig .tc) (h : b = main_v2_0 ∨ b = main_v2_1 ∨ b = main_v2_2 ∨ b = main_v10) : E1 m c b = W6 m c b :=
  StableHlo.after_of_forall_not_mem exOps0 _ (by
    rcases h with rfl | rfl | rfl | rfl <;>
      (intro op hop; fin_cases hop <;> exact fun e => StableHlo.devRef_ne_of_ne (by decide) (Finset.mem_singleton.mp e)))

theorem codesA1 : codesA (atRefs (E1 m)) c = A m c := by
  funext i q
  exact congrFun ((E1_keeps m c main_v2_1 (by simp)).trans ((W6_keeps m c main_v2_1 (by simp)).trans (v2_1 m c))) (ix2 i q)
theorem codesB1 : codesB (atRefs (E1 m)) c = B m c := by
  funext i q
  exact congrFun ((E1_keeps m c main_v2_2 (by simp)).trans ((W6_keeps m c main_v2_2 (by simp)).trans (v2_2 m c))) (ix2 i q)
theorem ex_mask (V : Valuation τ sig (Elt Ideal)) :
    after exOps0 V main_case0b0_v16 = (extui 32 (V main_arg2 : Vec Ideal S8192x8192 .i1) natLt_1_32 : Vec Ideal S8192x8192 .i32) := by
  after_results
theorem mask1 : maskOf2 (atRefs (E1 m)) c = M m c := by
  have h3 : E1 m c main_case0b0_v16 = (extui 32 (msk m c) natLt_1_32 : Vec Ideal S8192x8192 .i32) := by
    rw [← show W6 m c main_arg2 = msk m c from W6_arg m c main_arg2 (.inr (.inr (.inl rfl)))]
    exact ex_mask (W6 m c)
  funext i j
  exact (congrArg on (congrFun h3 (ix2 i j))).trans (on_widened _)

/-! ## The sums -/

theorem s0 : W4 m c main_v4_0 = fun i : S16x1x1.Idx => blockSum (fun i j => negTerm (A m c i) (B m c j) (M m c i j)) (i 0) := by
  rw [W4_v4_0, final1_3, codesA3, codesB3, mask3]
theorem s1 : W4 m c main_v4_1 = fun i : S16x1x1.Idx => blockSum (fun i j => posTerm (A m c i) (B m c j) (M m c i j)) (i 0) := by
  rw [W4_v4_1, final1_4, codesA3, codesB3, mask3]
theorem s2 : W4 m c main_v4_2 = fun i : S16x1x1.Idx => blockSum (fun i j => cntTerm (M m c i j)) (i 0) := by
  rw [W4_v4_2, final1_5, mask3]

theorem W6_host (b : Ref sig .tc) (h : b ≠ main_v12) : W6 m c b = after hostOps2 (W4 m c) b :=
  StableHlo.after_of_forall_not_mem [rdOp] _ (by
    intro op hop; fin_cases hop; exact fun e => StableHlo.devRef_ne_of_ne h (Finset.mem_singleton.mp e))

theorem rd (V : Valuation τ sig (Elt Ideal)) :
    after [rdOp] V main_v12 = (extui 32 (V main_v11 : Vec Ideal S_ .i1) natLt_1_32 : Vec Ideal S_ .i32) := by
  after_results

/-- The word that the branch takes says whether the negative sum reaches a million. -/
theorem word_eq : word m c = if 1000000 ≤ Spec.neg (A m c) (B m c) (M m c) then 1#32 else 0#32 := by
  unfold word
  rw [show W6 m c main_v12 = _ from rd (W5 m c), show W5 m c main_v11 = _ from v11 (W4 m c) _ _ _ (s0 m c)]
  change BitVec.setWidth 32 (if _ then 1#1 else 0#1) = _
  split_ifs <;> rfl

/-! ## The results -/

/-- The loss. -/
theorem loss_eq : Wend m c main_v13 = (fun _ => (Spec.loss (A m c) (B m c) (M m c) : EReal) : Vec Ideal S_ .f32) := by
  have h5 := (W6_host m c main_v5 (by decide)).trans (v5 (W4 m c) _ _ _ (s0 m c))
  have h8 := (W6_host m c main_v8 (by decide)).trans (v8 (W4 m c) _ _ _ (s1 m c))
  have h9 := (W6_host m c main_v9 (by decide)).trans (v9 (W4 m c) _ (s2 m c))
  have h10 := (W6_host m c main_v10 (by decide)).trans (v10 (W4 m c) _ (s2 m c))
  unfold Wend armEnd
  rw [word_eq]
  by_cases hM : 1000000 ≤ Spec.neg (A m c) (B m c) (M m c)
  · rw [if_pos hM, if_neg (by decide)]
    exact fast (W6 m c) _ _ _ hM h5 h8 h9 h10
  · rw [if_neg hM, if_pos (by decide)]
    refine exact_end (E2 m c) _ _ _ hM ?_ ?_
    · rw [E2_v17, final2_4 (atRefs (E1 m)) c _ (Spec.neg_nonneg (A m c) (B m c) (M m c)) (exact_word (W6 m c) _ _ _ h5),
        codesA1, codesB1, mask1]
    · exact (E2_of_ne m c main_v10 (by decide)).trans ((E1_keeps m c main_v10 (by simp)).trans h10)

/-- The projections. -/
theorem proj_eq : Wend m c main_v2_0 = Spec.sides (w1 m c) (b1 m c) (w2 m c) (b2 m c) (x0 m c) (x1 m c) := by
  have hex : ∀ op ∈ (exOps1 (F := Ideal)), Proc.devRef .tc main_v2_0 ∉ op.writes := by
    intro op hop; fin_cases hop <;> exact fun e => StableHlo.devRef_ne_of_ne (by decide) (Finset.mem_singleton.mp e)
  have hf : ∀ op ∈ (fastOps (F := Ideal)), Proc.devRef .tc main_v2_0 ∉ op.writes := by
    intro op hop; fin_cases hop <;> exact fun e => StableHlo.devRef_ne_of_ne (by decide) (Finset.mem_singleton.mp e)
  rw [← sides_eq, ← W6_keeps m c main_v2_0 (by simp)]
  unfold Wend armEnd
  split
  · exact (StableHlo.after_of_forall_not_mem exOps1 _ hex).trans ((E2_of_ne m c main_v2_0 (by decide)).trans (E1_keeps m c main_v2_0 (by simp)))
  · exact StableHlo.after_of_forall_not_mem fastOps _ hf

end Cert.KernelIdeal.Host

end
-- ==== Proof.Value.Direction.lean ====
/-
  One direction of the reference's loss, from the mask and the exponentials of all pairs.
-/
module

public import proofs.«01_k».proof.Proof.Gen.ReferenceIdeal.Run
public import proofs.«01_k».proof.Proof.Value.Inputs
public import Idealize.ShloMosaic.Lib.Pipeline.ValueKit

@[expose] public section

set_option maxRecDepth 16384

noncomputable section

namespace Cert.ReferenceIdeal.Host

open Cert.ReferenceIdeal Cert.ReferenceIdeal.Gen Cert.ReferenceIdeal.Value
open Idealize.ShloMosaic Idealize.ShloMosaic.TcCoe Idealize.SL.Sem

/-- A number at every pair. -/
abbrev spread (N : FVec Ideal S_ .f32) : FVec Ideal S8192x8192 .f32 := broadcastInDim S8192x8192 ![] bcast_S_S8192x8192 N
/-- The sum over all pairs. -/
def sumOf (E : FVec Ideal S8192x8192 .f32) : FVec Ideal S_ .f32 :=
  Host.reduceAdd E (constant S_ .f32 0x00000000#32) reducesTo_S8192x8192_S_d0_1 h_S_
/-- The sum over the pairs that are not positive, -/
def negOf (P : IVec S8192x8192 1) (E : FVec Ideal S8192x8192 .f32) : FVec Ideal S_ .f32 :=
  sumOf (select P (spread (id (constant S_ .f32 0x00000000#32))) E)
/-- the denominators, -/
def denOf (E : FVec Ideal S8192x8192 .f32) (N : FVec Ideal S_ .f32) : FVec Ideal S8192x8192 .f32 :=
  select (broadcastInDim S8192x8192 ![] bcast_S_S8192x8192 (cmpf .oge N (constant S_ .f32 0x49742400#32))) (spread N) (addf E (spread N))
/-- the losses of the positive pairs, -/
def valOf (P : IVec S8192x8192 1) (E D : FVec Ideal S8192x8192 .f32) : FVec Ideal S8192x8192 .f32 :=
  select P (Host.negf (Host.log (Host.divf E D))) (spread (id (constant S_ .f32 0x00000000#32)))
/-- and the loss. -/
def lossOf (P : IVec S8192x8192 1) (E : FVec Ideal S8192x8192 .f32) (N : FVec Ideal S_ .f32) : FVec Ideal S_ .f32 :=
  Host.divf (sumOf (valOf P E (denOf E N))) (maximumf (sumOf (uitofp .f32 P)) (constant S_ .f32 0x3F800000#32))

theorem bit : ∀ b : BitVec 1, b = 0#1 ∨ b = 1#1 := by decide

theorem sumOf_eq (E : FVec Ideal S8192x8192 .f32) (f : Fin 8192 → Fin 8192 → ℝ) (h : ∀ i j, E (ix2 i j) = ((f i j : ℝ) : EReal)) :
    sumOf E = fun _ => ((∑ i, ∑ j, f i j : ℝ) : EReal) := by
  funext y
  pointwise [sumOf]
  simp only [h]
  exact Spec.coe_sum_sum f

variable (A B : Spec.Codes) (M : Spec.Mask) (P : IVec S8192x8192 1) (E : FVec Ideal S8192x8192 .f32)
  (hP : ∀ i j, P (ix2 i j) = M i j) (hE : ∀ i j, E (ix2 i j) = ((Spec.expSim (A i) (B j) : ℝ) : EReal))

include hP hE in
theorem negOf_eq : negOf P E = fun _ => ((Spec.neg A B M : ℝ) : EReal) := by
  refine sumOf_eq _ (fun i j => if M i j = 1#1 then 0 else Spec.expSim (A i) (B j)) fun i j => ?_
  change Scalar.select (P (ix2 i j)) (Ideal.ofBits .f32 0x00000000#32) (E (ix2 i j)) = _
  rw [hP, hE, Ideal.ofBits_zero_f32, Scalar.select]
  split_ifs <;> first | rfl | simp_all

theorem denOf_apply (N : FVec Ideal S_ .f32) (i j : Fin 8192) :
    denOf E N (ix2 i j) = Scalar.select (Ideal.cmp .oge (N ix0) (Ideal.ofBits .f32 0x49742400#32)) (N ix0) (E (ix2 i j) + N ix0) := by
  pointwise [denOf]

include hE in
theorem denOf_eq (i j : Fin 8192) : denOf E (fun _ => ((Spec.neg A B M : ℝ) : EReal)) (ix2 i j) = ((Spec.den A B M i j : ℝ) : EReal) := by
  rw [denOf_apply, hE, Spec.bits_million, Spec.den]
  change Scalar.select (BitVec.ofBool (decide (((1000000 : ℝ) : EReal) ≤ ((Spec.neg A B M : ℝ) : EReal)))) _ _ = _
  simp only [EReal.coe_le_coe_iff]
  rw [← EReal.coe_add]
  split_ifs with h <;> simp [h, Scalar.select]

include hP hE in
theorem lossOf_eq : lossOf P E (fun _ => ((Spec.neg A B M : ℝ) : EReal)) = fun _ => ((Spec.loss A B M : ℝ) : EReal) := by
  have hv := sumOf_eq (valOf P E (denOf E fun _ => ((Spec.neg A B M : ℝ) : EReal)))
    (fun i j => if M i j = 1#1 then -Real.log (Spec.expSim (A i) (B j) / Spec.den A B M i j) else 0) fun i j => by
      change Scalar.select (P (ix2 i j)) (-Ideal.log (Ideal.div (E (ix2 i j)) (denOf E _ (ix2 i j)))) (Ideal.ofBits .f32 0x00000000#32) = _
      rw [hP, hE, denOf_eq A B M E hE, Ideal.ofBits_zero_f32, Spec.div_real _ (Spec.den_pos A B M i j).ne',
        Spec.log_real (div_pos (Spec.expSim_pos _ _) (Spec.den_pos A B M i j)), ← EReal.coe_neg, Scalar.select]
      split_ifs <;> first | rfl | simp_all
  have hc := sumOf_eq (uitofp .f32 P) (fun i j => if M i j = 1#1 then 1 else 0) fun i j => by
      change (((P (ix2 i j)).toNat : ℝ) : EReal) = _
      rw [hP]
      rcases bit (M i j) with e | e <;> simp [e]
  unfold lossOf
  rw [hv, hc]
  funext y
  change Ideal.div ((∑ i, ∑ j, if M i j = 1#1 then -Real.log (Spec.expSim (A i) (B j) / Spec.den A B M i j) else 0 : ℝ) : EReal)
    (max ((Spec.cnt M : ℝ) : EReal) (Ideal.ofBits .f32 0x3F800000#32)) = _
  rw [Ideal.ofBits_one_f32, ← EReal.coe_one, Spec.max_real, Spec.div_real _ (Spec.cnt_max_pos M).ne']
  rfl

end Cert.ReferenceIdeal.Host

end
-- ==== Proof.Value.Reference.lean ====
/-
  What the reference computes: its rows, its codes' products, one direction's loss, and its two results.
-/
module

public import proofs.«01_k».proof.Proof.Gen.ReferenceIdeal.Run
public import proofs.«01_k».proof.Proof.Value.Direction
public import Idealize.ShloMosaic.Lib.Pipeline.ValueKit

@[expose] public section

set_option maxRecDepth 16384

noncomputable section

namespace Cert.ReferenceIdeal.Host

open Cert.ReferenceIdeal Cert.ReferenceIdeal.Gen Cert.ReferenceIdeal.Value
open Idealize.ShloMosaic Idealize.ShloMosaic.TcCoe Idealize.SL.Sem

variable (V : Valuation τ sig (Elt Ideal))

/-! ## The arguments -/

abbrev x0 : FVec Ideal S8192x256 .f32 := V main_arg0
abbrev x1 : FVec Ideal S8192x256 .f32 := V main_arg1
abbrev msk : IVec S8192x8192 1 := V main_arg2
abbrev w1 : FVec Ideal S256x256 .f32 := V main_arg3
abbrev b1 : FVec Ideal S256 .f32 := V main_arg4
abbrev w2 : FVec Ideal S128x256 .f32 := V main_arg5
abbrev b2 : FVec Ideal S128 .f32 := V main_arg6

/-! ## The projections -/

/-- The reference's spelling of the unit: it keeps the exponential's argument from growing where the unit is linear. -/
theorem elu_eq (h z : EReal) : (if 0 < h then h else Ideal.exp (if 0 < h then z else h) - 1) = Spec.elu h := by
  unfold Spec.elu
  split_ifs <;> rfl

theorem row0 (r : Fin 8192) (o : Fin 128) :
    (show FVec Ideal S8192x128 .f32 from res_main_v10 V) (ix2 r o) = Spec.row (w1 V) (b1 V) (w2 V) (b2 V) (x0 V) r o := by
  pointwise [res_main_v10, res_main_v4]
  simp only [elu_eq]
  rfl
theorem row1 (r : Fin 8192) (o : Fin 128) :
    (show FVec Ideal S8192x128 .f32 from res_main_v21 V) (ix2 r o) = Spec.row (w1 V) (b1 V) (w2 V) (b2 V) (x1 V) r o := by
  pointwise [res_main_v21, res_main_v15]
  simp only [elu_eq]
  rfl

/-! ## The pairs -/

/-- The product of two rows of clipped numbers, scaled, and its exponential. -/
theorem pair (a b : Fin 128 → EReal) :
    Ideal.exp (Ideal.div (Ideal.div (∑ k,
        min ((127 : ℝ) : EReal) (max ((-128 : ℝ) : EReal) (Ideal.liftRound Ideal.roundHalfEven (((127 : ℝ) : EReal) * Ideal.div (a k) (Spec.norm a))))
          * min ((127 : ℝ) : EReal) (max ((-128 : ℝ) : EReal) (Ideal.liftRound Ideal.roundHalfEven (((127 : ℝ) : EReal) * Ideal.div (b k) (Spec.norm b)))))
        ((16129 : ℝ) : EReal)) ((1 / 2 : ℝ) : EReal))
      = ((Spec.expSim (Spec.code a) (Spec.code b) : ℝ) : EReal) := by
  simp only [Spec.code_toInt, ← EReal.coe_mul]
  rw [Spec.coe_sum, Spec.div_real _ (by norm_num), Spec.div_real _ (by norm_num), Ideal.exp_coe]
  congr 2
  rw [Spec.sim, Spec.dot]
  push_cast
  ring

/-- A constant, however the program wraps it. -/
theorem konst (b : BitVec 32) : id (constant (F := Ideal) S_ .f32 b) ix0 = Ideal.ofBits .f32 b := rfl
theorem norm_eq (z : Fin 128 → EReal) : max (Ideal.ofBits .f32 0x2B8CBCCC#32) (Ideal.sqrt (∑ k, z k * z k)) = Spec.norm z := max_comm _ _

/-- The exponentials of two arrays of rows, from the rows. -/
theorem v44 (i j : Fin 8192) : (show FVec Ideal S8192x8192 .f32 from res_main_v44 V) (ix2 i j)
    = ((Spec.expSim (Spec.codes (w1 V) (b1 V) (w2 V) (b2 V) (x0 V) i) (Spec.codes (w1 V) (b1 V) (w2 V) (b2 V) (x1 V) j) : ℝ) : EReal) := by
  refine Eq.trans ?_ (pair _ _)
  pointwise [res_main_v44]
  have h0 : ∀ x, (show FVec Ideal S8192x128 .f32 from res_main_v10 V) (ix2 i x) = _ := row0 V i
  have h1 : ∀ x, (show FVec Ideal S8192x128 .f32 from res_main_v21 V) (ix2 j x) = _ := row1 V j
  simp only [konst, h0, h1, Spec.bits_127, Spec.bits_neg128, Spec.bits_16129, Spec.bits_half]
  simp only [norm_eq]
theorem v83 (i j : Fin 8192) : (show FVec Ideal S8192x8192 .f32 from res_main_v83 V) (ix2 i j)
    = ((Spec.expSim (Spec.codes (w1 V) (b1 V) (w2 V) (b2 V) (x1 V) i) (Spec.codes (w1 V) (b1 V) (w2 V) (b2 V) (x0 V) j) : ℝ) : EReal) := by
  refine Eq.trans ?_ (pair _ _)
  pointwise [res_main_v83]
  have h1 : ∀ x, (show FVec Ideal S8192x128 .f32 from res_main_v21 V) (ix2 i x) = _ := row1 V i
  have h0 : ∀ x, (show FVec Ideal S8192x128 .f32 from res_main_v10 V) (ix2 j x) = _ := row0 V j
  simp only [konst, h0, h1, Spec.bits_127, Spec.bits_neg128, Spec.bits_16129, Spec.bits_half]
  simp only [norm_eq]

/-! ## The results -/

theorem mask_apply (i j : Fin 8192) : msk V (ix2 i j) = Spec.mask (msk V) i j := rfl
theorem transposed_apply (i j : Fin 8192) :
    (show IVec S8192x8192 1 from res_main_v60 V) (ix2 i j) = (fun i j => Spec.mask (msk V) j i : Spec.Mask) i j := by
  pointwise [res_main_v60]
  rfl

abbrev A : Spec.Codes := Spec.codes (w1 V) (b1 V) (w2 V) (b2 V) (x0 V)
abbrev B : Spec.Codes := Spec.codes (w1 V) (b1 V) (w2 V) (b2 V) (x1 V)
abbrev M : Spec.Mask := Spec.mask (msk V)

/-- The two directions, each half of the loss. -/
def both : FVec Ideal S_ .f32 :=
  addf (mulf (constant S_ .f32 0x3F000000#32) (lossOf (msk V) (res_main_v44 V) (res_main_v46 V)))
    (mulf (constant S_ .f32 0x3F000000#32) (lossOf (res_main_v60 V) (res_main_v83 V) (res_main_v85 V)))

theorem loss_eq : both V = fun _ => ((Spec.loss (A V) (B V) (M V) : ℝ) : EReal) := by
  have n0 : res_main_v46 V = fun _ => ((Spec.neg (A V) (B V) (M V) : ℝ) : EReal) :=
    negOf_eq _ _ _ _ _ (mask_apply V) (v44 V)
  have n1 : res_main_v85 V = fun _ => ((Spec.neg (B V) (A V) (fun i j => M V j i) : ℝ) : EReal) :=
    negOf_eq _ _ _ _ _ (transposed_apply V) (v83 V)
  have l0 : lossOf (msk V) (res_main_v44 V) (res_main_v46 V) = fun _ => ((Spec.loss (A V) (B V) (M V) : ℝ) : EReal) :=
    (congrArg (lossOf (msk V) (res_main_v44 V)) n0).trans (lossOf_eq _ _ _ _ _ (mask_apply V) (v44 V))
  have l1 : lossOf (res_main_v60 V) (res_main_v83 V) (res_main_v85 V) = fun _ => ((Spec.loss (A V) (B V) (M V) : ℝ) : EReal) :=
    (congrArg (lossOf (res_main_v60 V) (res_main_v83 V)) n1).trans
      ((lossOf_eq _ _ _ _ _ (transposed_apply V) (v83 V)).trans (by rw [Spec.loss_swap]))
  unfold both
  rw [l0, l1]
  funext y
  change Ideal.ofBits .f32 0x3F000000#32 * ((Spec.loss (A V) (B V) (M V) : ℝ) : EReal)
    + Ideal.ofBits .f32 0x3F000000#32 * ((Spec.loss (A V) (B V) (M V) : ℝ) : EReal) = _
  rw [Spec.bits_half, ← EReal.coe_mul, ← EReal.coe_add]
  congr 1
  ring

theorem sides_left (r : Fin 8192) (o : Fin 256) (h : o.val < 128) :
    Spec.sides (w1 V) (b1 V) (w2 V) (b2 V) (x0 V) (x1 V) (ix2 r o) = Spec.row (w1 V) (b1 V) (w2 V) (b2 V) (x0 V) r ⟨o.val, h⟩ :=
  dif_pos h
theorem sides_right (r : Fin 8192) (o : Fin 256) (h : ¬ o.val < 128) (h' : o.val - 128 < 128) :
    Spec.sides (w1 V) (b1 V) (w2 V) (b2 V) (x0 V) (x1 V) (ix2 r o) = Spec.row (w1 V) (b1 V) (w2 V) (b2 V) (x1 V) r ⟨o.val - 128, h'⟩ :=
  dif_neg h

/-- The second result: the two projections side by side. -/
theorem sides_eq : concatenate S8192x256 1 [⟨S8192x128, res_main_v10 V⟩, ⟨S8192x128, res_main_v21 V⟩] concatenates_S8192x128_S8192x128_S8192x256_d1
    = Spec.sides (w1 V) (b1 V) (w2 V) (b2 V) (x0 V) (x1 V) := by
  funext i
  obtain ⟨r, o, rfl⟩ : ∃ (r : Fin 8192) (o : Fin 256), i = ix2 r o := ⟨i 0, i 1, eq_ix2 i⟩
  have e0 := row0 V
  have e1 := row1 V
  by_cases h : o.val < 128
  · rw [sides_left V r o h, ← e0]
    generalize res_main_v10 V = p
    generalize res_main_v21 V = q
    pointwise []
    rw [dif_pos h]
  · have h' : o.val - 128 < 128 := by omega
    rw [sides_right V r o h h', ← e1]
    generalize res_main_v10 V = p
    generalize res_main_v21 V = q
    pointwise []
    rw [dif_neg h]

end Cert.ReferenceIdeal.Host

end
-- ==== Proof.lean ====
/-
  The claim: the three frames, the named constant's statement, and the kernel's idealization against the
  reference, both of whose results are the same function of the arguments.
-/
module

public import proofs.«01_k».proof.Defs
public import proofs.«01_k».proof.Proof.Frames
public import proofs.«01_k».proof.Proof.Value.Result
public import proofs.«01_k».proof.Proof.Value.Reference

@[expose] public section

set_option maxRecDepth 16384

noncomputable section

namespace Cert.Proof

open Idealize.ShloMosaic Idealize.ShloMosaic.StableHlo Idealize.SL.Sem

/-- The kernel's idealization and the reference leave equal results: the loss of the projections' codes, and the
    projections side by side. -/
theorem algebraic : Cert.algebraic_KernelIdeal_ReferenceIdeal
    (hKernelIdeal := Cert.KernelIdeal.Gen.facts) (hReferenceIdeal := Cert.ReferenceIdeal.Gen.facts) := by
  intro m g m' g' _ hagree
  refine ⟨fun c => Cert.KernelIdeal.Run.Wend m c (Proc.devRef .tc Cert.KernelIdeal.main_v13), fun c => Cert.KernelIdeal.Run.Wend m c (Proc.devRef .tc Cert.KernelIdeal.main_v2_0), ?_, ?_⟩
  · exact (θ_run Cert.KernelIdeal.defs _ _).mono
      (fun r h c => ⟨h.1 c (Proc.devRef .tc Cert.KernelIdeal.main_v13) (Cert.KernelIdeal.Run.mem_ucRefs _ rfl),
        h.1 c (Proc.devRef .tc Cert.KernelIdeal.main_v2_0) (Cert.KernelIdeal.Run.mem_ucRefs _ rfl),
        Cert.KernelIdeal.Run.run_args m r h.1 c⟩)
      (Cert.KernelIdeal.Run.run_main (F := Ideal) m g)
  · refine (θ_run Cert.ReferenceIdeal.defs _ _).mono (fun r h c => ?_) (Cert.ReferenceIdeal.Value.run (F := Ideal) m' g')
    obtain ⟨h0, h1, h2⟩ := h c
    obtain ⟨a0, a1, a2, a3, a4, a5, a6⟩ := hagree c
    have e0 : Cert.ReferenceIdeal.Host.x0 (launchContents m' c) = Cert.KernelIdeal.Host.x0 m c := a0
    have e1 : Cert.ReferenceIdeal.Host.x1 (launchContents m' c) = Cert.KernelIdeal.Host.x1 m c := a1
    have e2 : Cert.ReferenceIdeal.Host.msk (launchContents m' c) = Cert.KernelIdeal.Host.msk m c := a2
    have e3 : Cert.ReferenceIdeal.Host.w1 (launchContents m' c) = Cert.KernelIdeal.Host.w1 m c := a3
    have e4 : Cert.ReferenceIdeal.Host.b1 (launchContents m' c) = Cert.KernelIdeal.Host.b1 m c := a4
    have e5 : Cert.ReferenceIdeal.Host.w2 (launchContents m' c) = Cert.KernelIdeal.Host.w2 m c := a5
    have e6 : Cert.ReferenceIdeal.Host.b2 (launchContents m' c) = Cert.KernelIdeal.Host.b2 m c := a6
    refine ⟨?_, ?_, h2⟩
    · refine (h0.trans (Cert.ReferenceIdeal.Host.loss_eq (launchContents m' c))).trans (Eq.trans ?_ (Cert.KernelIdeal.Host.loss_eq m c).symm)
      unfold Cert.ReferenceIdeal.Host.A Cert.ReferenceIdeal.Host.B Cert.ReferenceIdeal.Host.M
      rw [e0, e1, e2, e3, e4, e5, e6]
    · refine (h1.trans (Cert.ReferenceIdeal.Host.sides_eq (launchContents m' c))).trans (Eq.trans ?_ (Cert.KernelIdeal.Host.proj_eq m c).symm)
      rw [e0, e1, e3, e4, e5, e6]

theorem claim : Cert.Claim :=
  ⟨Cert.Kernel.Gen.facts, Cert.KernelIdeal.Gen.facts, Cert.ReferenceIdeal.Gen.facts,
    Cert.Claims.frame_kernel, Cert.Claims.frame_ideal, Cert.Claims.frame_reference, Cert.Claims.preserves, algebraic⟩

end Cert.Proof

end
